-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_weights_in_range [hPre_weights_in_range : Cert.Pre_weights_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_weights_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_weights_in_range [hPre_weights_in_range : Cert.Pre_weights_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_weights_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_OprojS (m : (ℓ : Loc Cert.OprojS.nD Cert.OprojS.τ Cert.OprojS.sig) → Buf (Elt Bits) ℓ) : Prop :=
  True

def Pre_OprojSIdeal (m : (ℓ : Loc Cert.OprojSIdeal.nD Cert.OprojSIdeal.τ Cert.OprojSIdeal.sig) → Buf (Elt Ideal) ℓ) : Prop :=
  True

def Pre_OprojSRefIdeal (m : (ℓ : Loc Cert.OprojSRefIdeal.nD Cert.OprojSRefIdeal.τ Cert.OprojSRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_weights_in_range [hMoeIdeal : Cert.MoeIdeal.Facts] [hPre_weights_in_range : Cert.Pre_weights_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_weights_in_range m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_weights_in_range [hMoeRefIdeal : Cert.MoeRefIdeal.Facts] [hPre_weights_in_range : Cert.Pre_weights_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_weights_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4)
      ∧ r.2.mem ((c.tc : Thread Cert.PleS.nD Cert.PleS.τ).loc Cert.PleS.main_arg5) = m ((c.tc : Thread Cert.PleS.nD Cert.PleS.τ).loc Cert.PleS.main_arg5))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
      ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4)
      ∧ r.2.mem ((c.tc : Thread Cert.PleSRefIdeal.nD Cert.PleSRefIdeal.τ).loc Cert.PleSRefIdeal.main_arg5) = m ((c.tc : Thread Cert.PleSRefIdeal.nD Cert.PleSRefIdeal.τ).loc Cert.PleSRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7)
      ∧ r.2.mem ((c.tc : Thread Cert.FfnSRefIdeal.nD Cert.FfnSRefIdeal.τ).loc Cert.FfnSRefIdeal.main_arg8) = m ((c.tc : Thread Cert.FfnSRefIdeal.nD Cert.FfnSRefIdeal.τ).loc Cert.FfnSRefIdeal.main_arg8))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_OprojS [hOprojS : Cert.OprojS.Facts] : Prop :=
  ∀ (m : (ℓ : Loc Cert.OprojS.nD Cert.OprojS.τ Cert.OprojS.sig) → Buf (Elt Bits) ℓ) (g : Dev Cert.OprojS.nD → PrngReg), Pre_OprojS m →
    θ_run (Cert.OprojS.defs (F := Bits)) (onTc (τ := Cert.OprojS.τ) (Cert.OprojS.main (F := Bits))) ⟨m, fun _ => 0, g⟩ (fun r => (∀ c : Dev Cert.OprojS.nD,
      r.2.mem ((c.tc : Thread Cert.OprojS.nD Cert.OprojS.τ).loc Cert.OprojS.main_arg0) = m ((c.tc : Thread Cert.OprojS.nD Cert.OprojS.τ).loc Cert.OprojS.main_arg0)
      ∧ r.2.mem ((c.tc : Thread Cert.OprojS.nD Cert.OprojS.τ).loc Cert.OprojS.main_arg1) = m ((c.tc : Thread Cert.OprojS.nD Cert.OprojS.τ).loc Cert.OprojS.main_arg1)
      ∧ r.2.mem ((c.tc : Thread Cert.OprojS.nD Cert.OprojS.τ).loc Cert.OprojS.main_arg2) = m ((c.tc : Thread Cert.OprojS.nD Cert.OprojS.τ).loc Cert.OprojS.main_arg2)
      ∧ r.2.mem ((c.tc : Thread Cert.OprojS.nD Cert.OprojS.τ).loc Cert.OprojS.main_arg3) = m ((c.tc : Thread Cert.OprojS.nD Cert.OprojS.τ).loc Cert.OprojS.main_arg3)
      ∧ r.2.mem ((c.tc : Thread Cert.OprojS.nD Cert.OprojS.τ).loc Cert.OprojS.main_arg4) = m ((c.tc : Thread Cert.OprojS.nD Cert.OprojS.τ).loc Cert.OprojS.main_arg4)
      ∧ r.2.mem ((c.tc : Thread Cert.OprojS.nD Cert.OprojS.τ).loc Cert.OprojS.main_arg5) = m ((c.tc : Thread Cert.OprojS.nD Cert.OprojS.τ).loc Cert.OprojS.main_arg5))
      ∧ r.2.sem = fun _ => 0)

def quiescent_OprojSIdeal [hOprojSIdeal : Cert.OprojSIdeal.Facts] : Prop :=
  ∀ (m : (ℓ : Loc Cert.OprojSIdeal.nD Cert.OprojSIdeal.τ Cert.OprojSIdeal.sig) → Buf (Elt Ideal) ℓ) (g : Dev Cert.OprojSIdeal.nD → PrngReg), Pre_OprojSIdeal m →
    θ_run (Cert.OprojSIdeal.defs (F := Ideal)) (onTc (τ := Cert.OprojSIdeal.τ) (Cert.OprojSIdeal.main (F := Ideal))) ⟨m, fun _ => 0, g⟩ (fun r => (∀ c : Dev Cert.OprojSIdeal.nD,
      r.2.mem ((c.tc : Thread Cert.OprojSIdeal.nD Cert.OprojSIdeal.τ).loc Cert.OprojSIdeal.main_arg0) = m ((c.tc : Thread Cert.OprojSIdeal.nD Cert.OprojSIdeal.τ).loc Cert.OprojSIdeal.main_arg0)
      ∧ r.2.mem ((c.tc : Thread Cert.OprojSIdeal.nD Cert.OprojSIdeal.τ).loc Cert.OprojSIdeal.main_arg1) = m ((c.tc : Thread Cert.OprojSIdeal.nD Cert.OprojSIdeal.τ).loc Cert.OprojSIdeal.main_arg1)
      ∧ r.2.mem ((c.tc : Thread Cert.OprojSIdeal.nD Cert.OprojSIdeal.τ).loc Cert.OprojSIdeal.main_arg2) = m ((c.tc : Thread Cert.OprojSIdeal.nD Cert.OprojSIdeal.τ).loc Cert.OprojSIdeal.main_arg2)
      ∧ r.2.mem ((c.tc : Thread Cert.OprojSIdeal.nD Cert.OprojSIdeal.τ).loc Cert.OprojSIdeal.main_arg3) = m ((c.tc : Thread Cert.OprojSIdeal.nD Cert.OprojSIdeal.τ).loc Cert.OprojSIdeal.main_arg3)
      ∧ r.2.mem ((c.tc : Thread Cert.OprojSIdeal.nD Cert.OprojSIdeal.τ).loc Cert.OprojSIdeal.main_arg4) = m ((c.tc : Thread Cert.OprojSIdeal.nD Cert.OprojSIdeal.τ).loc Cert.OprojSIdeal.main_arg4)
      ∧ r.2.mem ((c.tc : Thread Cert.OprojSIdeal.nD Cert.OprojSIdeal.τ).loc Cert.OprojSIdeal.main_arg5) = m ((c.tc : Thread Cert.OprojSIdeal.nD Cert.OprojSIdeal.τ).loc Cert.OprojSIdeal.main_arg5))
      ∧ r.2.sem = fun _ => 0)

def quiescent_OprojSRefIdeal [hOprojSRefIdeal : Cert.OprojSRefIdeal.Facts] : Prop :=
  ∀ (m : (ℓ : Loc Cert.OprojSRefIdeal.nD Cert.OprojSRefIdeal.τ Cert.OprojSRefIdeal.sig) → Buf (Elt Ideal) ℓ) (g : Dev Cert.OprojSRefIdeal.nD → PrngReg), Pre_OprojSRefIdeal m →
    θ_run (Cert.OprojSRefIdeal.defs (F := Ideal)) (onTc (τ := Cert.OprojSRefIdeal.τ) (Cert.OprojSRefIdeal.main (F := Ideal))) ⟨m, fun _ => 0, g⟩ (fun r => (∀ c : Dev Cert.OprojSRefIdeal.nD,
      r.2.mem ((c.tc : Thread Cert.OprojSRefIdeal.nD Cert.OprojSRefIdeal.τ).loc Cert.OprojSRefIdeal.main_arg0) = m ((c.tc : Thread Cert.OprojSRefIdeal.nD Cert.OprojSRefIdeal.τ).loc Cert.OprojSRefIdeal.main_arg0)
      ∧ r.2.mem ((c.tc : Thread Cert.OprojSRefIdeal.nD Cert.OprojSRefIdeal.τ).loc Cert.OprojSRefIdeal.main_arg1) = m ((c.tc : Thread Cert.OprojSRefIdeal.nD Cert.OprojSRefIdeal.τ).loc Cert.OprojSRefIdeal.main_arg1)
      ∧ r.2.mem ((c.tc : Thread Cert.OprojSRefIdeal.nD Cert.OprojSRefIdeal.τ).loc Cert.OprojSRefIdeal.main_arg2) = m ((c.tc : Thread Cert.OprojSRefIdeal.nD Cert.OprojSRefIdeal.τ).loc Cert.OprojSRefIdeal.main_arg2)
      ∧ r.2.mem ((c.tc : Thread Cert.OprojSRefIdeal.nD Cert.OprojSRefIdeal.τ).loc Cert.OprojSRefIdeal.main_arg3) = m ((c.tc : Thread Cert.OprojSRefIdeal.nD Cert.OprojSRefIdeal.τ).loc Cert.OprojSRefIdeal.main_arg3)
      ∧ r.2.mem ((c.tc : Thread Cert.OprojSRefIdeal.nD Cert.OprojSRefIdeal.τ).loc Cert.OprojSRefIdeal.main_arg4) = m ((c.tc : Thread Cert.OprojSRefIdeal.nD Cert.OprojSRefIdeal.τ).loc Cert.OprojSRefIdeal.main_arg4)
      ∧ r.2.mem ((c.tc : Thread Cert.OprojSRefIdeal.nD Cert.OprojSRefIdeal.τ).loc Cert.OprojSRefIdeal.main_arg5) = m ((c.tc : Thread Cert.OprojSRefIdeal.nD Cert.OprojSRefIdeal.τ).loc Cert.OprojSRefIdeal.main_arg5))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def preserves_Moe_MoeIdeal : Prop :=
  True

def algebraic_MoeIdeal_MoeRefIdeal_pre_weights_in_range [hMoeIdeal : Cert.MoeIdeal.Facts] [hMoeRefIdeal : Cert.MoeRefIdeal.Facts] [hPre_weights_in_range : Cert.Pre_weights_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_weights_in_range m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v12) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)
      ∧ m' ((c.tc : Thread Cert.PleSRefIdeal.nD Cert.PleSRefIdeal.τ).loc Cert.PleSRefIdeal.main_arg5) = m ((c.tc : Thread Cert.PleSIdeal.nD Cert.PleSIdeal.τ).loc Cert.PleSIdeal.main_arg5)) →
    ∃ (v0 : (c : Dev Cert.PleSIdeal.nD) → Buf (Elt Ideal) ((c.tc : Thread Cert.PleSIdeal.nD Cert.PleSIdeal.τ).loc Cert.PleSIdeal.main_v4)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v4) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
          ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v35) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4)
          ∧ r.2.mem ((c.tc : Thread Cert.PleSRefIdeal.nD Cert.PleSRefIdeal.τ).loc Cert.PleSRefIdeal.main_arg5) = m' ((c.tc : Thread Cert.PleSRefIdeal.nD Cert.PleSRefIdeal.τ).loc Cert.PleSRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v12_0)) (v1 : (c : Dev Cert.QkvIdeal.nD) → Buf (Elt Ideal) ((c.tc : Thread Cert.QkvIdeal.nD Cert.QkvIdeal.τ).loc Cert.QkvIdeal.main_v12_1)) (v2 : (c : Dev Cert.QkvIdeal.nD) → Buf (Elt Ideal) ((c.tc : Thread Cert.QkvIdeal.nD Cert.QkvIdeal.τ).loc Cert.QkvIdeal.main_v12_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12_0) = v0 c
          ∧ r.2.mem ((c.tc : Thread Cert.QkvIdeal.nD Cert.QkvIdeal.τ).loc Cert.QkvIdeal.main_v12_1) = v1 c
          ∧ r.2.mem ((c.tc : Thread Cert.QkvIdeal.nD Cert.QkvIdeal.τ).loc Cert.QkvIdeal.main_v12_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v49) = v0 c
          ∧ r.2.mem ((c.tc : Thread Cert.QkvRefIdeal.nD Cert.QkvRefIdeal.τ).loc Cert.QkvRefIdeal.main_v65) = v1 c
          ∧ r.2.mem ((c.tc : Thread Cert.QkvRefIdeal.nD Cert.QkvRefIdeal.τ).loc Cert.QkvRefIdeal.main_v68) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v11_0)) (v1 : (c : Dev Cert.QkvSIdeal.nD) → Buf (Elt Ideal) ((c.tc : Thread Cert.QkvSIdeal.nD Cert.QkvSIdeal.τ).loc Cert.QkvSIdeal.main_v11_1)) (v2 : (c : Dev Cert.QkvSIdeal.nD) → Buf (Elt Ideal) ((c.tc : Thread Cert.QkvSIdeal.nD Cert.QkvSIdeal.τ).loc Cert.QkvSIdeal.main_v11_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v11_0) = v0 c
          ∧ r.2.mem ((c.tc : Thread Cert.QkvSIdeal.nD Cert.QkvSIdeal.τ).loc Cert.QkvSIdeal.main_v11_1) = v1 c
          ∧ r.2.mem ((c.tc : Thread Cert.QkvSIdeal.nD Cert.QkvSIdeal.τ).loc Cert.QkvSIdeal.main_v11_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v47) = v0 c
          ∧ r.2.mem ((c.tc : Thread Cert.QkvSRefIdeal.nD Cert.QkvSRefIdeal.τ).loc Cert.QkvSRefIdeal.main_v63) = v1 c
          ∧ r.2.mem ((c.tc : Thread Cert.QkvSRefIdeal.nD Cert.QkvSRefIdeal.τ).loc Cert.QkvSRefIdeal.main_v66) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)) →
    ∃ (v0 : (c : Dev Cert.MixSIdeal.nD) → Buf (Elt Ideal) ((c.tc : Thread Cert.MixSIdeal.nD Cert.MixSIdeal.τ).loc Cert.MixSIdeal.main_v4_0)) (v1 : (c : Dev Cert.MixSIdeal.nD) → Buf (Elt Ideal) ((c.tc : Thread Cert.MixSIdeal.nD Cert.MixSIdeal.τ).loc Cert.MixSIdeal.main_v4_1)) (v2 : (c : Dev Cert.MixSIdeal.nD) → Buf (Elt Ideal) ((c.tc : Thread Cert.MixSIdeal.nD Cert.MixSIdeal.τ).loc Cert.MixSIdeal.main_v4_2)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v4_0) = v0 c
          ∧ r.2.mem ((c.tc : Thread Cert.MixSIdeal.nD Cert.MixSIdeal.τ).loc Cert.MixSIdeal.main_v4_1) = v1 c
          ∧ r.2.mem ((c.tc : Thread Cert.MixSIdeal.nD Cert.MixSIdeal.τ).loc Cert.MixSIdeal.main_v4_2) = v2 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v55) = v0 c
          ∧ r.2.mem ((c.tc : Thread Cert.MixSRefIdeal.nD Cert.MixSRefIdeal.τ).loc Cert.MixSRefIdeal.main_v57) = v1 c
          ∧ r.2.mem ((c.tc : Thread Cert.MixSRefIdeal.nD Cert.MixSRefIdeal.τ).loc Cert.MixSRefIdeal.main_v59) = v2 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v8)) (v1 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_v11) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v19) = v0 c
          ∧ r.2.mem ((c.tc : Thread Cert.MixRefIdeal.nD Cert.MixRefIdeal.τ).loc Cert.MixRefIdeal.main_v20) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Moba_MobaIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)
      ∧ m' ((c.tc : Thread Cert.FfnSRefIdeal.nD Cert.FfnSRefIdeal.τ).loc Cert.FfnSRefIdeal.main_arg8) = m ((c.tc : Thread Cert.FfnSIdeal.nD Cert.FfnSIdeal.τ).loc Cert.FfnSIdeal.main_arg8)) →
    ∃ (v0 : (c : Dev Cert.FfnSIdeal.nD) → Buf (Elt Ideal) ((c.tc : Thread Cert.FfnSIdeal.nD Cert.FfnSIdeal.τ).loc Cert.FfnSIdeal.main_v2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v2) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v41) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7)
          ∧ r.2.mem ((c.tc : Thread Cert.FfnSRefIdeal.nD Cert.FfnSRefIdeal.τ).loc Cert.FfnSRefIdeal.main_arg8) = m' ((c.tc : Thread Cert.FfnSRefIdeal.nD Cert.FfnSRefIdeal.τ).loc Cert.FfnSRefIdeal.main_arg8))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v2) = v0 c
          ∧ r.2.mem ((c.tc : Thread Cert.OprojRefIdeal.nD Cert.OprojRefIdeal.τ).loc Cert.OprojRefIdeal.main_v16) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_OprojS_OprojSIdeal : Prop :=
  True

def algebraic_OprojSIdeal_OprojSRefIdeal [hOprojSIdeal : Cert.OprojSIdeal.Facts] [hOprojSRefIdeal : Cert.OprojSRefIdeal.Facts] : Prop :=
  ∀ (m : (ℓ : Loc Cert.OprojSIdeal.nD Cert.OprojSIdeal.τ Cert.OprojSIdeal.sig) → Buf (Elt Ideal) ℓ) (g : Dev Cert.OprojSIdeal.nD → PrngReg)
    (m' : (ℓ : Loc Cert.OprojSRefIdeal.nD Cert.OprojSRefIdeal.τ Cert.OprojSRefIdeal.sig) → Buf (Elt Ideal) ℓ) (g' : Dev Cert.OprojSRefIdeal.nD → PrngReg), Pre_OprojSIdeal m →
    (∀ c : Dev Cert.OprojSIdeal.nD,
      m' ((c.tc : Thread Cert.OprojSRefIdeal.nD Cert.OprojSRefIdeal.τ).loc Cert.OprojSRefIdeal.main_arg0) = m ((c.tc : Thread Cert.OprojSIdeal.nD Cert.OprojSIdeal.τ).loc Cert.OprojSIdeal.main_arg0)
      ∧ m' ((c.tc : Thread Cert.OprojSRefIdeal.nD Cert.OprojSRefIdeal.τ).loc Cert.OprojSRefIdeal.main_arg1) = m ((c.tc : Thread Cert.OprojSIdeal.nD Cert.OprojSIdeal.τ).loc Cert.OprojSIdeal.main_arg1)
      ∧ m' ((c.tc : Thread Cert.OprojSRefIdeal.nD Cert.OprojSRefIdeal.τ).loc Cert.OprojSRefIdeal.main_arg2) = m ((c.tc : Thread Cert.OprojSIdeal.nD Cert.OprojSIdeal.τ).loc Cert.OprojSIdeal.main_arg2)
      ∧ m' ((c.tc : Thread Cert.OprojSRefIdeal.nD Cert.OprojSRefIdeal.τ).loc Cert.OprojSRefIdeal.main_arg3) = m ((c.tc : Thread Cert.OprojSIdeal.nD Cert.OprojSIdeal.τ).loc Cert.OprojSIdeal.main_arg3)
      ∧ m' ((c.tc : Thread Cert.OprojSRefIdeal.nD Cert.OprojSRefIdeal.τ).loc Cert.OprojSRefIdeal.main_arg4) = m ((c.tc : Thread Cert.OprojSIdeal.nD Cert.OprojSIdeal.τ).loc Cert.OprojSIdeal.main_arg4)
      ∧ m' ((c.tc : Thread Cert.OprojSRefIdeal.nD Cert.OprojSRefIdeal.τ).loc Cert.OprojSRefIdeal.main_arg5) = m ((c.tc : Thread Cert.OprojSIdeal.nD Cert.OprojSIdeal.τ).loc Cert.OprojSIdeal.main_arg5)) →
    ∃ (v0 : (c : Dev Cert.OprojSIdeal.nD) → Buf (Elt Ideal) ((c.tc : Thread Cert.OprojSIdeal.nD Cert.OprojSIdeal.τ).loc Cert.OprojSIdeal.main_v1_0)) (v1 : (c : Dev Cert.OprojSIdeal.nD) → Buf (Elt Ideal) ((c.tc : Thread Cert.OprojSIdeal.nD Cert.OprojSIdeal.τ).loc Cert.OprojSIdeal.main_v1_1)),
      θ_run (Cert.OprojSIdeal.defs (F := Ideal)) (onTc (τ := Cert.OprojSIdeal.τ) (Cert.OprojSIdeal.main (F := Ideal))) ⟨m, fun _ => 0, g⟩ (fun r => ∀ c : Dev Cert.OprojSIdeal.nD,
          r.2.mem ((c.tc : Thread Cert.OprojSIdeal.nD Cert.OprojSIdeal.τ).loc Cert.OprojSIdeal.main_v1_0) = v0 c
          ∧ r.2.mem ((c.tc : Thread Cert.OprojSIdeal.nD Cert.OprojSIdeal.τ).loc Cert.OprojSIdeal.main_v1_1) = v1 c
          ∧ r.2.mem ((c.tc : Thread Cert.OprojSIdeal.nD Cert.OprojSIdeal.τ).loc Cert.OprojSIdeal.main_arg0) = m ((c.tc : Thread Cert.OprojSIdeal.nD Cert.OprojSIdeal.τ).loc Cert.OprojSIdeal.main_arg0)
          ∧ r.2.mem ((c.tc : Thread Cert.OprojSIdeal.nD Cert.OprojSIdeal.τ).loc Cert.OprojSIdeal.main_arg1) = m ((c.tc : Thread Cert.OprojSIdeal.nD Cert.OprojSIdeal.τ).loc Cert.OprojSIdeal.main_arg1)
          ∧ r.2.mem ((c.tc : Thread Cert.OprojSIdeal.nD Cert.OprojSIdeal.τ).loc Cert.OprojSIdeal.main_arg2) = m ((c.tc : Thread Cert.OprojSIdeal.nD Cert.OprojSIdeal.τ).loc Cert.OprojSIdeal.main_arg2)
          ∧ r.2.mem ((c.tc : Thread Cert.OprojSIdeal.nD Cert.OprojSIdeal.τ).loc Cert.OprojSIdeal.main_arg3) = m ((c.tc : Thread Cert.OprojSIdeal.nD Cert.OprojSIdeal.τ).loc Cert.OprojSIdeal.main_arg3)
          ∧ r.2.mem ((c.tc : Thread Cert.OprojSIdeal.nD Cert.OprojSIdeal.τ).loc Cert.OprojSIdeal.main_arg4) = m ((c.tc : Thread Cert.OprojSIdeal.nD Cert.OprojSIdeal.τ).loc Cert.OprojSIdeal.main_arg4)
          ∧ r.2.mem ((c.tc : Thread Cert.OprojSIdeal.nD Cert.OprojSIdeal.τ).loc Cert.OprojSIdeal.main_arg5) = m ((c.tc : Thread Cert.OprojSIdeal.nD Cert.OprojSIdeal.τ).loc Cert.OprojSIdeal.main_arg5))
      ∧ θ_run (Cert.OprojSRefIdeal.defs (F := Ideal)) (onTc (τ := Cert.OprojSRefIdeal.τ) (Cert.OprojSRefIdeal.main (F := Ideal))) ⟨m', fun _ => 0, g'⟩ (fun r => ∀ c : Dev Cert.OprojSRefIdeal.nD,
          r.2.mem ((c.tc : Thread Cert.OprojSRefIdeal.nD Cert.OprojSRefIdeal.τ).loc Cert.OprojSRefIdeal.main_v1) = v0 c
          ∧ r.2.mem ((c.tc : Thread Cert.OprojSRefIdeal.nD Cert.OprojSRefIdeal.τ).loc Cert.OprojSRefIdeal.main_v15) = v1 c
          ∧ r.2.mem ((c.tc : Thread Cert.OprojSRefIdeal.nD Cert.OprojSRefIdeal.τ).loc Cert.OprojSRefIdeal.main_arg0) = m' ((c.tc : Thread Cert.OprojSRefIdeal.nD Cert.OprojSRefIdeal.τ).loc Cert.OprojSRefIdeal.main_arg0)
          ∧ r.2.mem ((c.tc : Thread Cert.OprojSRefIdeal.nD Cert.OprojSRefIdeal.τ).loc Cert.OprojSRefIdeal.main_arg1) = m' ((c.tc : Thread Cert.OprojSRefIdeal.nD Cert.OprojSRefIdeal.τ).loc Cert.OprojSRefIdeal.main_arg1)
          ∧ r.2.mem ((c.tc : Thread Cert.OprojSRefIdeal.nD Cert.OprojSRefIdeal.τ).loc Cert.OprojSRefIdeal.main_arg2) = m' ((c.tc : Thread Cert.OprojSRefIdeal.nD Cert.OprojSRefIdeal.τ).loc Cert.OprojSRefIdeal.main_arg2)
          ∧ r.2.mem ((c.tc : Thread Cert.OprojSRefIdeal.nD Cert.OprojSRefIdeal.τ).loc Cert.OprojSRefIdeal.main_arg3) = m' ((c.tc : Thread Cert.OprojSRefIdeal.nD Cert.OprojSRefIdeal.τ).loc Cert.OprojSRefIdeal.main_arg3)
          ∧ r.2.mem ((c.tc : Thread Cert.OprojSRefIdeal.nD Cert.OprojSRefIdeal.τ).loc Cert.OprojSRefIdeal.main_arg4) = m' ((c.tc : Thread Cert.OprojSRefIdeal.nD Cert.OprojSRefIdeal.τ).loc Cert.OprojSRefIdeal.main_arg4)
          ∧ r.2.mem ((c.tc : Thread Cert.OprojSRefIdeal.nD Cert.OprojSRefIdeal.τ).loc Cert.OprojSRefIdeal.main_arg5) = m' ((c.tc : Thread Cert.OprojSRefIdeal.nD Cert.OprojSRefIdeal.τ).loc Cert.OprojSRefIdeal.main_arg5))

def preserves_Select_SelectIdeal : Prop :=
  True

def Claim : Prop :=
  ∃ (hMoe : Cert.Moe.Facts) (hMoeIdeal : Cert.MoeIdeal.Facts) (hMoeRefIdeal : Cert.MoeRefIdeal.Facts) (hPle : Cert.Ple.Facts) (hPleIdeal : Cert.PleIdeal.Facts) (hPleRefIdeal : Cert.PleRefIdeal.Facts) (hPleS : Cert.PleS.Facts) (hPleSIdeal : Cert.PleSIdeal.Facts) (hPleSRefIdeal : Cert.PleSRefIdeal.Facts) (hQkv : Cert.Qkv.Facts) (hQkvIdeal : Cert.QkvIdeal.Facts) (hQkvRefIdeal : Cert.QkvRefIdeal.Facts) (hQkvS : Cert.QkvS.Facts) (hQkvSIdeal : Cert.QkvSIdeal.Facts) (hQkvSRefIdeal : Cert.QkvSRefIdeal.Facts) (hMixS : Cert.MixS.Facts) (hMixSIdeal : Cert.MixSIdeal.Facts) (hMixSRefIdeal : Cert.MixSRefIdeal.Facts) (hMix : Cert.Mix.Facts) (hMixIdeal : Cert.MixIdeal.Facts) (hMixRefIdeal : Cert.MixRefIdeal.Facts) (hMoba : Cert.Moba.Facts) (hMobaIdeal : Cert.MobaIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts) (hOproj : Cert.Oproj.Facts) (hOprojIdeal : Cert.OprojIdeal.Facts) (hOprojRefIdeal : Cert.OprojRefIdeal.Facts) (hOprojS : Cert.OprojS.Facts) (hOprojSIdeal : Cert.OprojSIdeal.Facts) (hOprojSRefIdeal : Cert.OprojSRefIdeal.Facts) (hSelect : Cert.Select.Facts) (hSelectIdeal : Cert.SelectIdeal.Facts) (hPre_weights_in_range : Cert.Pre_weights_in_range.Facts),
    quiescent_Moe (hMoe := hMoe)
    ∧ quiescent_MoeIdeal (hMoeIdeal := hMoeIdeal)
    ∧ quiescent_MoeIdeal_pre_weights_in_range (hMoeIdeal := hMoeIdeal) (hPre_weights_in_range := hPre_weights_in_range)
    ∧ quiescent_MoeRefIdeal (hMoeRefIdeal := hMoeRefIdeal)
    ∧ quiescent_MoeRefIdeal_pre_weights_in_range (hMoeRefIdeal := hMoeRefIdeal) (hPre_weights_in_range := hPre_weights_in_range)
    ∧ quiescent_Ple (hPle := hPle)
    ∧ quiescent_PleIdeal (hPleIdeal := hPleIdeal)
    ∧ quiescent_PleRefIdeal (hPleRefIdeal := hPleRefIdeal)
    ∧ quiescent_PleS (hPleS := hPleS)
    ∧ quiescent_PleSIdeal (hPleSIdeal := hPleSIdeal)
    ∧ quiescent_PleSRefIdeal (hPleSRefIdeal := hPleSRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_MixS (hMixS := hMixS)
    ∧ quiescent_MixSIdeal (hMixSIdeal := hMixSIdeal)
    ∧ quiescent_MixSRefIdeal (hMixSRefIdeal := hMixSRefIdeal)
    ∧ quiescent_Mix (hMix := hMix)
    ∧ quiescent_MixIdeal (hMixIdeal := hMixIdeal)
    ∧ quiescent_MixRefIdeal (hMixRefIdeal := hMixRefIdeal)
    ∧ quiescent_Moba (hMoba := hMoba)
    ∧ quiescent_MobaIdeal (hMobaIdeal := hMobaIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Oproj (hOproj := hOproj)
    ∧ quiescent_OprojIdeal (hOprojIdeal := hOprojIdeal)
    ∧ quiescent_OprojRefIdeal (hOprojRefIdeal := hOprojRefIdeal)
    ∧ quiescent_OprojS (hOprojS := hOprojS)
    ∧ quiescent_OprojSIdeal (hOprojSIdeal := hOprojSIdeal)
    ∧ quiescent_OprojSRefIdeal (hOprojSRefIdeal := hOprojSRefIdeal)
    ∧ quiescent_Select (hSelect := hSelect)
    ∧ quiescent_SelectIdeal (hSelectIdeal := hSelectIdeal)
    ∧ preserves_Moe_MoeIdeal
    ∧ algebraic_MoeIdeal_MoeRefIdeal_pre_weights_in_range (hMoeIdeal := hMoeIdeal) (hMoeRefIdeal := hMoeRefIdeal) (hPre_weights_in_range := hPre_weights_in_range)
    ∧ preserves_Ple_PleIdeal
    ∧ algebraic_PleIdeal_PleRefIdeal (hPleIdeal := hPleIdeal) (hPleRefIdeal := hPleRefIdeal)
    ∧ preserves_PleS_PleSIdeal
    ∧ algebraic_PleSIdeal_PleSRefIdeal (hPleSIdeal := hPleSIdeal) (hPleSRefIdeal := hPleSRefIdeal)
    ∧ preserves_Qkv_QkvIdeal
    ∧ algebraic_QkvIdeal_QkvRefIdeal (hQkvIdeal := hQkvIdeal) (hQkvRefIdeal := hQkvRefIdeal)
    ∧ preserves_QkvS_QkvSIdeal
    ∧ algebraic_QkvSIdeal_QkvSRefIdeal (hQkvSIdeal := hQkvSIdeal) (hQkvSRefIdeal := hQkvSRefIdeal)
    ∧ preserves_MixS_MixSIdeal
    ∧ algebraic_MixSIdeal_MixSRefIdeal (hMixSIdeal := hMixSIdeal) (hMixSRefIdeal := hMixSRefIdeal)
    ∧ preserves_Mix_MixIdeal
    ∧ algebraic_MixIdeal_MixRefIdeal (hMixIdeal := hMixIdeal) (hMixRefIdeal := hMixRefIdeal)
    ∧ preserves_Moba_MobaIdeal
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
    ∧ preserves_Oproj_OprojIdeal
    ∧ algebraic_OprojIdeal_OprojRefIdeal (hOprojIdeal := hOprojIdeal) (hOprojRefIdeal := hOprojRefIdeal)
    ∧ preserves_OprojS_OprojSIdeal
    ∧ algebraic_OprojSIdeal_OprojSRefIdeal (hOprojSIdeal := hOprojSIdeal) (hOprojSRefIdeal := hOprojSRefIdeal)
    ∧ preserves_Select_SelectIdeal
-- ==== Pre_weights_in_range.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x1024 .bf16) (main_arg1 : FVec F S16384x1024 .f32) (main_arg2 : FVec F S16384x128 .f32) (main_arg3 : FVec F S8x1024x3584 .f32) (main_arg4 : FVec F S8x1024x3584 .f32) (main_arg5 : FVec F S8x3584x1024 .f32) : IVec S16384x8 1 :=
  let main_v0 : FVec F S16384x8 .f32 := (extractStridedSlice S16384x8 ![0, 0] · slices_S16384x128_S16384x8_0_0) main_arg2
  let main_cst : FVec F S_ .f32 := constant S_ .f32 0x00000000#32
  let main_v1 : FVec F S16384x8 .f32 := broadcastInDim S16384x8 ![] bcast_S_S16384x8 main_cst
  let main_v2 : IVec S16384x8 1 := cmpf .oge main_v0 main_v1
  let main_cst_0 : FVec F S_ .f32 := constant S_ .f32 0x3F800000#32
  let main_v3 : FVec F S16384x8 .f32 := broadcastInDim S16384x8 ![] bcast_S_S16384x8 main_cst_0
  let main_v4 : IVec S16384x8 1 := cmpf .ole main_v0 main_v3
  let main_v5 : IVec S16384x8 1 := andi main_v2 main_v4
  main_v5
-- ==== Moe.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S1x128 : Shape := ⟨2, ![1, 128]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x128, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 7], ![false, false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let arg2 : BitVec 32 := BitVec.ofNat 32 (i 2).val
  let c6_i32 : BitVec 32 := 6#32
  let v37 : BitVec 1 := Scalar.cmpi .eq arg2 c6_i32
  let v38 : BitVec 1 := Scalar.andi v36 v37
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MoeRefIdeal.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S16384x8x3584 : Shape := ⟨3, ![16384, 8, 3584]⟩
abbrev S_ : Shape := ⟨0, ![]⟩
abbrev S8x1024x16384 : Shape := ⟨3, ![8, 1024, 16384]⟩
abbrev S16384x8x1024 : Shape := ⟨3, ![16384, 8, 1024]⟩
abbrev S16384x8 : Shape := ⟨2, ![16384, 8]⟩
abbrev S16384x8x1 : Shape := ⟨3, ![16384, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x128, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S16384x1024, .f32⟩
  | .hbm, ⟨7, _⟩ => ⟨S16384x8x3584, .f32⟩
  | .hbm, ⟨8, _⟩ => ⟨S16384x8x3584, .f32⟩
  | .hbm, ⟨9, _⟩ => ⟨S16384x8x3584, .f32⟩
  | .hbm, ⟨10, _⟩ => ⟨S16384x8x3584, .f32⟩
  | .hbm, ⟨11, _⟩ => ⟨S_, .f32⟩
  | .hbm, ⟨12, _⟩ => ⟨S16384x8x3584, .f32⟩
  | .hbm, ⟨13, _⟩ => ⟨S16384x8x3584, .f32⟩
  | .hbm, ⟨14, _⟩ => ⟨S_, .f32⟩
  | .hbm, ⟨15, _⟩ => ⟨S16384x8x3584, .f32⟩
  | .hbm, ⟨16, _⟩ => ⟨S16384x8x3584, .f32⟩
  | .hbm, ⟨17, _⟩ => ⟨S16384x8x3584, .f32⟩
  | .hbm, ⟨18, _⟩ => ⟨S16384x8x3584, .f32⟩
  | .hbm, ⟨19, _⟩ => ⟨S8x1024x16384, .f32⟩
  | .hbm, ⟨20, _⟩ => ⟨S16384x8x1024, .f32⟩
  | .hbm, ⟨21, _⟩ => ⟨S16384x8, .f32⟩
  | .hbm, ⟨22, _⟩ => ⟨S16384x8x1, .f32⟩
  | .hbm, ⟨23, _⟩ => ⟨S16384x8x1024, .f32⟩
  | .hbm, ⟨24, _⟩ => ⟨S16384x8x1024, .f32⟩
  | .hbm, ⟨25, _⟩ => ⟨S_, .f32⟩
  | .hbm, ⟨26, _⟩ => ⟨S16384x1024, .f32⟩
  | .hbm, ⟨27, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S256x1024, .bf16⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x1024 : Shape := ⟨2, ![16384, 1024]⟩
abbrev S16384x256 : Shape := ⟨2, ![16384, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== PleS.lean ====
abbrev S32x1024 : Shape := ⟨2, ![32, 1024]⟩
abbrev S32x256 : Shape := ⟨2, ![32, 256]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S32 : Shape := ⟨1, ![32]⟩
abbrev S32x1 : Shape := ⟨2, ![32, 1]⟩

abbrev nBuf : Space → Nat
  | .hbm => 11
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S256x1024, .bf16⟩
  | .hbm, ⟨8, _⟩ => ⟨S1024x1024, .bf16⟩
  | .hbm, ⟨9, _⟩ => ⟨S1x1024, .f32⟩
  | .hbm, ⟨10, _⟩ => ⟨S32x1024, .f32⟩
  | .local _ .vmem, ⟨0, _⟩ => ⟨S32x1024, .f32⟩
  | .local _ .vmem, ⟨1, _⟩ => ⟨S32x256, .f32⟩
  | .local _ .vmem, ⟨2, _⟩ => ⟨S1x1024, .f32⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PleSRefIdeal.lean ====
abbrev S32x1024 : Shape := ⟨2, ![32, 1024]⟩
abbrev S32x256 : Shape := ⟨2, ![32, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S_, .f32⟩
  | .hbm, ⟨36, _⟩ => ⟨S32, .f32⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S32x1, .f32⟩
  | .hbm, ⟨45, _⟩ => ⟨S32x1024, .f32⟩
  | .hbm, ⟨46, _⟩ => ⟨S32x1024, .f32⟩
  | .hbm, ⟨47, _⟩ => ⟨S1x1024, .f32⟩
  | .hbm, ⟨48, _⟩ => ⟨S32x1024, .f32⟩
  | .hbm, ⟨49, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S1024x3072 : Shape := ⟨2, ![1024, 3072]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1024 : Shape := ⟨2, ![1, 1024]⟩
abbrev S16384x2048 : Shape := ⟨2, ![16384, 2048]⟩
abbrev S32x2x1024 : Shape := ⟨3, ![32, 2, 1024]⟩
abbrev S512x1024 : Shape := ⟨2, ![512, 1024]⟩
abbrev S512x2048 : Shape := ⟨2, ![512, 2048]⟩
abbrev S1x2x1024 : Shape := ⟨3, ![1, 2, 1024]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S2x256x1024 : Shape := ⟨3, ![2, 256, 1024]⟩
abbrev S2x1024 : Shape := ⟨2, ![2, 1024]⟩

abbrev nBuf : Space → Nat
  | .hbm => 23
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S4x32, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S1024x3072, .bf16⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x2048, .bf16⟩
  | .hbm, ⟨21, _⟩ => ⟨S16384x2048, .bf16⟩
  | .hbm, ⟨22, _⟩ => ⟨S32x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S1x2x1024, .f32⟩
  | .local _ .vmem, ⟨16, _⟩ => ⟨S1x2x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S16384x1024 : Shape := ⟨2, ![16384, 1024]⟩
abbrev S1024 : Shape := ⟨1, ![1024]⟩
abbrev S1024x3072 : Shape := ⟨2, ![1024, 3072]⟩
abbrev S16384 : Shape := ⟨1, ![16384]⟩
abbrev S_ : Shape := ⟨0, ![]⟩
abbrev S16384x1 : Shape := ⟨2, ![16384, 1]⟩
abbrev S1x1024 : Shape := ⟨2, ![1, 1024]⟩
abbrev S16384x3072 : Shape := ⟨2, ![16384, 3072]⟩
abbrev S16384x3x16x64 : Shape := ⟨4, ![16384, 3, 16, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x1x16x64 : Shape := ⟨4, ![16384, 1, 16, 64]⟩
abbrev S16384x16x64 : Shape := ⟨3, ![16384, 16, 64]⟩
abbrev S16384x16x32 : Shape := ⟨3, ![16384, 16, 32]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x3072, .f32⟩
  | .hbm, ⟨24, _⟩ => ⟨S16384x3x16x64, .f32⟩
  | .hbm, ⟨25, _⟩ => ⟨S16384, .f32⟩
  | .hbm, ⟨26, _⟩ => ⟨S16384x1, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x1x32, .f32⟩
  | .hbm, ⟨41, _⟩ => ⟨S16384x32, .f32⟩
  | .hbm, ⟨42, _⟩ => ⟨S16384x1x32, .f32⟩
  | .hbm, ⟨43, _⟩ => ⟨S16384x1x16x64, .f32⟩
  | .hbm, ⟨44, _⟩ => ⟨S16384x16x64, .f32⟩
  | .hbm, ⟨45, _⟩ => ⟨S16384x16x32, .f32⟩
  | .hbm, ⟨46, _⟩ => ⟨S16384x16x32, .f32⟩
  | .hbm, ⟨47, _⟩ => ⟨S16384x16x32, .f32⟩
  | .hbm, ⟨48, _⟩ => ⟨S16384x16x32, .f32⟩
  | .hbm, ⟨49, _⟩ => ⟨S16384x16x32, .f32⟩
  | .hbm, ⟨50, _⟩ => ⟨S16384x16x32, .f32⟩
  | .hbm, ⟨51, _⟩ => ⟨S16384x16x32, .f32⟩
  | .hbm, ⟨52, _⟩ => ⟨S16384x16x32, .f32⟩
  | .hbm, ⟨53, _⟩ => ⟨S16384x16x32, .f32⟩
  | .hbm, ⟨54, _⟩ => ⟨S16384x16x32, .f32⟩
  | .hbm, ⟨55, _⟩ => ⟨S16384x16x32, .f32⟩
  | .hbm, ⟨56, _⟩ => ⟨S16384x16x32, .f32⟩
  | .hbm, ⟨57, _⟩ => ⟨S16384x16x64, .f32⟩
  | .hbm, ⟨58, _⟩ => ⟨S16384x1024, .f32⟩
  | .hbm, ⟨59, _⟩ => ⟨S16384x1x16x64, .f32⟩
  | .hbm, ⟨60, _⟩ => ⟨S16384x16x64, .f32⟩
  | .hbm, ⟨61, _⟩ => ⟨S16384x16x32, .f32⟩
  | .hbm, ⟨62, _⟩ => ⟨S16384x16x32, .f32⟩
  | .hbm, ⟨63, _⟩ => ⟨S16384x16x32, .f32⟩
  | .hbm, ⟨64, _⟩ => ⟨S16384x16x32, .f32⟩
  | .hbm, ⟨65, _⟩ => ⟨S16384x16x32, .f32⟩
  | .hbm, ⟨66, _⟩ => ⟨S16384x16x32, .f32⟩
  | .hbm, ⟨67, _⟩ => ⟨S16384x16x32, .f32⟩
  | .hbm, ⟨68, _⟩ => ⟨S16384x16x32, .f32⟩
  | .hbm, ⟨69, _⟩ => ⟨S16384x16x32, .f32⟩
  | .hbm, ⟨70, _⟩ => ⟨S16384x16x32, .f32⟩
  | .hbm, ⟨71, _⟩ => ⟨S16384x16x32, .f32⟩
  | .hbm, ⟨72, _⟩ => ⟨S16384x16x32, .f32⟩
  | .hbm, ⟨73, _⟩ => ⟨S16384x16x64, .f32⟩
  | .hbm, ⟨74, _⟩ => ⟨S16384x1024, .f32⟩
  | .hbm, ⟨75, _⟩ => ⟨S16384x1x16x64, .f32⟩
  | .hbm, ⟨76, _⟩ => ⟨S16384x16x64, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]
-- ==== QkvS.lean ====
abbrev S32x1024 : Shape := ⟨2, ![32, 1024]⟩
abbrev S1024 : Shape := ⟨1, ![1024]⟩
abbrev S1024x3072 : Shape := ⟨2, ![1024, 3072]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1024 : Shape := ⟨2, ![1, 1024]⟩
abbrev S32x1 : Shape := ⟨2, ![32, 1]⟩
abbrev S32x3072 : Shape := ⟨2, ![32, 3072]⟩
abbrev S32x128 : Shape := ⟨2, ![32, 128]⟩

abbrev nBuf : Space → Nat
  | .hbm => 19
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3072, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S4x32, .f32⟩
  | .hbm, ⟨13, _⟩ => ⟨S128, .f32⟩
  | .hbm, ⟨14, _⟩ => ⟨S1x128, .f32⟩
  | .hbm, ⟨15, _⟩ => ⟨S1x1024, .f32⟩
  | .hbm, ⟨16, _⟩ => ⟨S32x1024, .f32⟩
  | .hbm, ⟨17, _⟩ => ⟨S32x1024, .f32⟩
  | .hbm, ⟨18, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x3072, .f32⟩
  | .local _ .vmem, ⟨3, _⟩ => ⟨S1x128, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== QkvSRefIdeal.lean ====
abbrev S32x1024 : Shape := ⟨2, ![32, 1024]⟩
abbrev S1024 : Shape := ⟨1, ![1024]⟩
abbrev S1024x3072 : Shape := ⟨2, ![1024, 3072]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3072 : Shape := ⟨2, ![32, 3072]⟩
abbrev S32x3x16x64 : Shape := ⟨4, ![32, 3, 16, 64]⟩
abbrev S1x32 : Shape := ⟨2, ![1, 32]⟩
abbrev S32x32 : Shape := ⟨2, ![32, 32]⟩
abbrev S32x1x32 : Shape := ⟨3, ![32, 1, 32]⟩
abbrev S32x1x16x64 : Shape := ⟨4, ![32, 1, 16, 64]⟩
abbrev S32x16x64 : Shape := ⟨3, ![32, 16, 64]⟩
abbrev S32x16x32 : Shape := ⟨3, ![32, 16, 32]⟩

abbrev nBuf : Space → Nat
  | .hbm => 76
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3072, .f32⟩
  | .hbm, ⟨3, _⟩ => ⟨S_, .i32⟩
  | .hbm, ⟨4, _⟩ => ⟨S32, .i32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x3072, .f32⟩
  | .hbm, ⟨22, _⟩ => ⟨S32x3x16x64, .f32⟩
  | .hbm, ⟨23, _⟩ => ⟨S32, .f32⟩
  | .hbm, ⟨24, _⟩ => ⟨S32x1, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S32x32, .f32⟩
  | .hbm, ⟨38, _⟩ => ⟨S32x1x32, .f32⟩
  | .hbm, ⟨39, _⟩ => ⟨S32x32, .f32⟩
  | .hbm, ⟨40, _⟩ => ⟨S32x1x32, .f32⟩
  | .hbm, ⟨41, _⟩ => ⟨S32x1x16x64, .f32⟩
  | .hbm, ⟨42, _⟩ => ⟨S32x16x64, .f32⟩
  | .hbm, ⟨43, _⟩ => ⟨S32x16x32, .f32⟩
  | .hbm, ⟨44, _⟩ => ⟨S32x16x32, .f32⟩
  | .hbm, ⟨45, _⟩ => ⟨S32x16x32, .f32⟩
  | .hbm, ⟨46, _⟩ => ⟨S32x16x32, .f32⟩
  | .hbm, ⟨47, _⟩ => ⟨S32x16x32, .f32⟩
  | .hbm, ⟨48, _⟩ => ⟨S32x16x32, .f32⟩
  | .hbm, ⟨49, _⟩ => ⟨S32x16x32, .f32⟩
  | .hbm, ⟨50, _⟩ => ⟨S32x16x32, .f32⟩
  | .hbm, ⟨51, _⟩ => ⟨S32x16x32, .f32⟩
  | .hbm, ⟨52, _⟩ => ⟨S32x16x32, .f32⟩
  | .hbm, ⟨53, _⟩ => ⟨S32x16x32, .f32⟩
  | .hbm, ⟨54, _⟩ => ⟨S32x16x32, .f32⟩
  | .hbm, ⟨55, _⟩ => ⟨S32x16x64, .f32⟩
  | .hbm, ⟨56, _⟩ => ⟨S32x1024, .f32⟩
  | .hbm, ⟨57, _⟩ => ⟨S32x1x16x64, .f32⟩
  | .hbm, ⟨58, _⟩ => ⟨S32x16x64, .f32⟩
  | .hbm, ⟨59, _⟩ => ⟨S32x16x32, .f32⟩
  | .hbm, ⟨60, _⟩ => ⟨S32x16x32, .f32⟩
  | .hbm, ⟨61, _⟩ => ⟨S32x16x32, .f32⟩
  | .hbm, ⟨62, _⟩ => ⟨S32x16x32, .f32⟩
  | .hbm, ⟨63, _⟩ => ⟨S32x16x32, .f32⟩
  | .hbm, ⟨64, _⟩ => ⟨S32x16x32, .f32⟩
  | .hbm, ⟨65, _⟩ => ⟨S32x16x32, .f32⟩
  | .hbm, ⟨66, _⟩ => ⟨S32x16x32, .f32⟩
  | .hbm, ⟨67, _⟩ => ⟨S32x16x32, .f32⟩
  | .hbm, ⟨68, _⟩ => ⟨S32x16x32, .f32⟩
  | .hbm, ⟨69, _⟩ => ⟨S32x16x32, .f32⟩
  | .hbm, ⟨70, _⟩ => ⟨S32x16x32, .f32⟩
  | .hbm, ⟨71, _⟩ => ⟨S32x16x64, .f32⟩
  | .hbm, ⟨72, _⟩ => ⟨S32x1024, .f32⟩
  | .hbm, ⟨73, _⟩ => ⟨S32x1x16x64, .f32⟩
  | .hbm, ⟨74, _⟩ => ⟨S32x16x64, .f32⟩
  | .hbm, ⟨75, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩

abbrev nD : Nat := 1
abbrev τ : Topo := Topo.v7x

variable {F : FTy → Type} [FloatOps F]
-- ==== MixS.lean ====
abbrev S32x1024 : Shape := ⟨2, ![32, 1024]⟩
abbrev S32x2x512 : Shape := ⟨3, ![32, 2, 512]⟩
abbrev S32x15x512 : Shape := ⟨3, ![32, 15, 512]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S32x7680 : Shape := ⟨2, ![32, 7680]⟩
abbrev S1x1024 : Shape := ⟨2, ![1, 1024]⟩
abbrev S1x512 : Shape := ⟨2, ![1, 512]⟩
abbrev S32 : Shape := ⟨1, ![32]⟩
abbrev S32x1 : Shape := ⟨2, ![32, 1]⟩
abbrev S32x2048 : Shape := ⟨2, ![32, 2048]⟩
abbrev S32x512 : Shape := ⟨2, ![32, 512]⟩
abbrev S32x128 : Shape := ⟨2, ![32, 128]⟩
abbrev S1x128x128 : Shape := ⟨3, ![1, 128, 128]⟩
abbrev S128x128 : Shape := ⟨2, ![128, 128]⟩
abbrev S1x128 : Shape := ⟨2, ![1, 128]⟩
abbrev S32x7168 : Shape := ⟨2, ![32, 7168]⟩

abbrev nBuf : Space → Nat
  | .hbm => 16
  | .vmem => 12
  | .smem => 0
  | _ => 0

abbrev bufTy : (tb : Table) → Fin (tcTables nBuf tb) → BufTy
  | .hbm, ⟨0, _⟩ => ⟨S32x1024, .f32⟩
  | .hbm, ⟨1, _⟩ => ⟨S32x2x512, .f32⟩
  | .hbm, ⟨2, _⟩ => ⟨S32x15x512, .f32⟩
  | .hbm, ⟨3, _⟩ => ⟨S1024, .f32⟩
  | .hbm, ⟨4, _⟩ => ⟨S1024x2048, .f32⟩
  | .hbm, ⟨5, _⟩ => ⟨S3x512, .f32⟩
  | .hbm, ⟨6, _⟩ => ⟨S4x128x128, .f32⟩
  | .hbm, ⟨7, _⟩ => ⟨S512, .f32⟩
  | .hbm, ⟨8, _⟩ => ⟨S1024x1024, .f32⟩
  | .hbm, ⟨9, _⟩ => ⟨S32x1024, .f32⟩
  | .hbm, ⟨10, _⟩ => ⟨S32x7680, .f32⟩
  | .hbm, ⟨11, _⟩ => ⟨S1x1024, .f32⟩
  | .hbm, ⟨12, _⟩ => ⟨S1x512, .f32⟩
  | .hbm, ⟨13, _⟩ => ⟨S32x1024, .f32⟩
  | .hbm, ⟨14, _⟩ => ⟨S32x1024, .f32⟩
  | .hbm, ⟨15, _⟩ => ⟨S32x7680, .f32⟩
  | .local _ .vmem, ⟨0, _⟩ => ⟨S32x1024, .f32⟩
  | .local _ .vmem, ⟨1, _⟩ => ⟨S32x1024, .f32⟩
  | .local _ .vmem, ⟨2, _⟩ => ⟨S32x7680, .f32⟩
  | .local _ .vmem, ⟨3, _⟩ => ⟨S1x1024, .f32⟩
  | .local _ .vmem, ⟨4, _⟩ => ⟨S1024x2048, .f32⟩
  | .local _ .vmem, ⟨5, _⟩ => ⟨S3x512, .f32⟩
  | .local _ .vmem, ⟨6, _⟩ => ⟨S4x128x128, .f32⟩
  | .local _ .vmem, ⟨7, _⟩ => ⟨S1x512, .f32⟩
  | .local _ .vmem, ⟨8, _⟩ => ⟨S1024x1024, .f32⟩
  | .local _ .vmem, ⟨9, _⟩ => ⟨S32x1024, .f32⟩
  | .local _ .vmem, ⟨10, _⟩ => ⟨S32x1024, .f32⟩
  | .local _ .vmem, ⟨11, _⟩ => ⟨S32x7680, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x7680 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x7680 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== MixSRefIdeal.lean ====
abbrev S32x1024 : Shape := ⟨2, ![32, 1024]⟩
abbrev S32x2x512 : Shape := ⟨3, ![32, 2, 512]⟩
abbrev S32x15x512 : Shape := ⟨3, ![32, 15, 512]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2048 : Shape := ⟨2, ![32, 2048]⟩
abbrev S32x512 : Shape := ⟨2, ![32, 512]⟩
abbrev S32x1x512 : Shape := ⟨3, ![32, 1, 512]⟩
abbrev S32x3x512 : Shape := ⟨3, ![32, 3, 512]⟩
abbrev S32x16x512 : Shape := ⟨3, ![32, 16, 512]⟩
abbrev S32x2x128 : Shape := ⟨3, ![32, 2, 128]⟩
abbrev S32x128 : Shape := ⟨2, ![32, 128]⟩
abbrev S32x4x128 : Shape := ⟨3, ![32, 4, 128]⟩
abbrev S32x8x128 : Shape := ⟨3, ![32, 8, 128]⟩
abbrev S32x16x128 : Shape := ⟨3, ![32, 16, 128]⟩
abbrev S4x128x32 : Shape := ⟨3, ![4, 128, 32]⟩
abbrev S1x512 : Shape := ⟨2, ![1, 512]⟩
abbrev S1x3x512 : Shape := ⟨3, ![1, 3, 512]⟩
abbrev S32x7680 : Shape := ⟨2, ![32, 7680]⟩

abbrev nBuf : Space → Nat
  | .hbm => 81
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2x512, .f32⟩
  | .hbm, ⟨2, _⟩ => ⟨S32x15x512, .f32⟩
  | .hbm, ⟨3, _⟩ => ⟨S1024, .f32⟩
  | .hbm, ⟨4, _⟩ => ⟨S1024x2048, .f32⟩
  | .hbm, ⟨5, _⟩ => ⟨S3x512, .f32⟩
  | .hbm, ⟨6, _⟩ => ⟨S4x128x128, .f32⟩
  | .hbm, ⟨7, _⟩ => ⟨S512, .f32⟩
  | .hbm, ⟨8, _⟩ => ⟨S1024x1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x1024, .f32⟩
  | .hbm, ⟨21, _⟩ => ⟨S32x1024, .f32⟩
  | .hbm, ⟨22, _⟩ => ⟨S1x1024, .f32⟩
  | .hbm, ⟨23, _⟩ => ⟨S32x1024, .f32⟩
  | .hbm, ⟨24, _⟩ => ⟨S32x1024, .f32⟩
  | .hbm, ⟨25, _⟩ => ⟨S32x2048, .f32⟩
  | .hbm, ⟨26, _⟩ => ⟨S32x512, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x1x512, .f32⟩
  | .hbm, ⟨32, _⟩ => ⟨S32x3x512, .f32⟩
  | .hbm, ⟨33, _⟩ => ⟨S32x1x512, .f32⟩
  | .hbm, ⟨34, _⟩ => ⟨S32x16x512, .f32⟩
  | .hbm, ⟨35, _⟩ => ⟨S32x2x128, .f32⟩
  | .hbm, ⟨36, _⟩ => ⟨S_, .f32⟩
  | .hbm, ⟨37, _⟩ => ⟨S32x128, .f32⟩
  | .hbm, ⟨38, _⟩ => ⟨S_, .f32⟩
  | .hbm, ⟨39, _⟩ => ⟨S32x128, .f32⟩
  | .hbm, ⟨40, _⟩ => ⟨S32x128, .f32⟩
  | .hbm, ⟨41, _⟩ => ⟨S32x4x128, .f32⟩
  | .hbm, ⟨42, _⟩ => ⟨S_, .f32⟩
  | .hbm, ⟨43, _⟩ => ⟨S32x128, .f32⟩
  | .hbm, ⟨44, _⟩ => ⟨S_, .f32⟩
  | .hbm, ⟨45, _⟩ => ⟨S32x128, .f32⟩
  | .hbm, ⟨46, _⟩ => ⟨S32x128, .f32⟩
  | .hbm, ⟨47, _⟩ => ⟨S32x8x128, .f32⟩
  | .hbm, ⟨48, _⟩ => ⟨S_, .f32⟩
  | .hbm, ⟨49, _⟩ => ⟨S32x128, .f32⟩
  | .hbm, ⟨50, _⟩ => ⟨S_, .f32⟩
  | .hbm, ⟨51, _⟩ => ⟨S32x128, .f32⟩
  | .hbm, ⟨52, _⟩ => ⟨S32x128, .f32⟩
  | .hbm, ⟨53, _⟩ => ⟨S32x16x128, .f32⟩
  | .hbm, ⟨54, _⟩ => ⟨S_, .f32⟩
  | .hbm, ⟨55, _⟩ => ⟨S32x128, .f32⟩
  | .hbm, ⟨56, _⟩ => ⟨S_, .f32⟩
  | .hbm, ⟨57, _⟩ => ⟨S32x128, .f32⟩
  | .hbm, ⟨58, _⟩ => ⟨S32x128, .f32⟩
  | .hbm, ⟨59, _⟩ => ⟨S32x512, .f32⟩
  | .hbm, ⟨60, _⟩ => ⟨S32x512, .f32⟩
  | .hbm, ⟨61, _⟩ => ⟨S32x4x128, .f32⟩
  | .hbm, ⟨62, _⟩ => ⟨S4x128x32, .f32⟩
  | .hbm, ⟨63, _⟩ => ⟨S32x4x128, .f32⟩
  | .hbm, ⟨64, _⟩ => ⟨S32x512, .f32⟩
  | .hbm, ⟨65, _⟩ => ⟨S1x512, .f32⟩
  | .hbm, ⟨66, _⟩ => ⟨S32x512, .f32⟩
  | .hbm, ⟨67, _⟩ => ⟨S32x512, .f32⟩
  | .hbm, ⟨68, _⟩ => ⟨S1x3x512, .f32⟩
  | .hbm, ⟨69, _⟩ => ⟨S32x3x512, .f32⟩
  | .hbm, ⟨70, _⟩ => ⟨S32x3x512, .f32⟩
  | .hbm, ⟨71, _⟩ => ⟨S_, .f32⟩
  | .hbm, ⟨72, _⟩ => ⟨S32x512, .f32⟩
  | .hbm, ⟨73, _⟩ => ⟨S32x512, .f32⟩
  | .hbm, ⟨74, _⟩ => ⟨S32x1024, .f32⟩
  | .hbm, ⟨75, _⟩ => ⟨S32x1024, .f32⟩
  | .hbm, ⟨76, _⟩ => ⟨S32x1024, .f32⟩
  | .hbm, ⟨77, _⟩ => ⟨S32x2x512, .f32⟩
  | .hbm, ⟨78, _⟩ => ⟨S32x1024, .f32⟩
  | .hbm, ⟨79, _⟩ => ⟨S32x15x512, .f32⟩
  | .hbm, ⟨80, _⟩ => ⟨S32x7680, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Mix.lean ====
abbrev S16384x1024 : Shape := ⟨2, ![16384, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S32x16x512 : Shape := ⟨3, ![32, 16, 512]⟩
abbrev S512x1024 : Shape := ⟨2, ![512, 1024]⟩
abbrev S1x16x512 : Shape := ⟨3, ![1, 16, 512]⟩
abbrev S528x512 : Shape := ⟨2, ![528, 512]⟩
abbrev S512x1 : Shape := ⟨2, ![512, 1]⟩
abbrev S512x2048 : Shape := ⟨2, ![512, 2048]⟩
abbrev S512x512 : Shape := ⟨2, ![512, 512]⟩
abbrev S16x512 : Shape := ⟨2, ![16, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S2x16x16x512 : Shape := ⟨4, ![2, 16, 16, 512]⟩
abbrev S2x1x2x512 : Shape := ⟨4, ![2, 1, 2, 512]⟩
abbrev S2x2x512 : Shape := ⟨3, ![2, 2, 512]⟩
abbrev S2x1x15x512 : Shape := ⟨4, ![2, 1, 15, 512]⟩
abbrev S2x15x512 : Shape := ⟨3, ![2, 15, 512]⟩

abbrev nBuf : Space → Nat
  | .hbm => 21
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S1x1024, .f32⟩
  | .hbm, ⟨8, _⟩ => ⟨S1024x2048, .bf16⟩
  | .hbm, ⟨9, _⟩ => ⟨S4x128x128, .bf16⟩
  | .hbm, ⟨10, _⟩ => ⟨S1x512, .f32⟩
  | .hbm, ⟨11, _⟩ => ⟨S1024x1024, .bf16⟩
  | .hbm, ⟨12, _⟩ => ⟨S16384x1024, .f32⟩
  | .hbm, ⟨13, _⟩ => ⟨S32x16x512, .f32⟩
  | .hbm, ⟨14, _⟩ => ⟨S32x16x512, .f32⟩
  | .hbm, ⟨15, _⟩ => ⟨S2x16x16x512, .f32⟩
  | .hbm, ⟨16, _⟩ => ⟨S2x1x2x512, .f32⟩
  | .hbm, ⟨17, _⟩ => ⟨S2x2x512, .f32⟩
  | .hbm, ⟨18, _⟩ => ⟨S2x16x16x512, .f32⟩
  | .hbm, ⟨19, _⟩ => ⟨S2x1x15x512, .f32⟩
  | .hbm, ⟨20, _⟩ => ⟨S2x15x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S3x512, .f32⟩
  | .local _ .vmem, ⟨5, _⟩ => ⟨S4x128x128, .bf16⟩
  | .local _ .vmem, ⟨6, _⟩ => ⟨S1x512, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x16x512, .f32⟩
  | .local _ .vmem, ⟨11, _⟩ => ⟨S1x16x512, .f32⟩
  | .local _ .vmem, ⟨12, _⟩ => ⟨S1x16x512, .f32⟩
  | .local _ .vmem, ⟨13, _⟩ => ⟨S1x16x512, .f32⟩
  | .local _ .vmem, ⟨14, _⟩ => ⟨S528x512, .f32⟩
  | .local _ .vmem, ⟨15, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16384x1024 : Shape := ⟨2, ![16384, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S2x8192x2048 : Shape := ⟨3, ![2, 8192, 2048]⟩
abbrev S2x8192x512 : Shape := ⟨3, ![2, 8192, 512]⟩
abbrev S2x2x512 : Shape := ⟨3, ![2, 2, 512]⟩
abbrev S2x15x512 : Shape := ⟨3, ![2, 15, 512]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S2x8192x2048, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x2x512, .f32⟩
  | .hbm, ⟨30, _⟩ => ⟨S2x15x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Moba.lean ====
abbrev S16384x1024 : Shape := ⟨2, ![16384, 1024]⟩
abbrev S16384x2048 : Shape := ⟨2, ![16384, 2048]⟩
abbrev S2x32x1024 : Shape := ⟨3, ![2, 32, 1024]⟩
abbrev S256x128 : Shape := ⟨2, ![256, 128]⟩
abbrev S8192x256 : Shape := ⟨2, ![8192, 256]⟩
abbrev S1x32x128 : Shape := ⟨3, ![1, 32, 128]⟩
abbrev S2x35x256x256 : Shape := ⟨4, ![2, 35, 256, 256]⟩
abbrev S2x256x128 : Shape := ⟨3, ![2, 256, 128]⟩
abbrev S1x128 : Shape := ⟨2, ![1, 128]⟩
abbrev S32x128 : Shape := ⟨2, ![32, 128]⟩
abbrev S96x128 : Shape := ⟨2, ![96, 128]⟩
abbrev S128x128 : Shape := ⟨2, ![128, 128]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S256x1024 : Shape := ⟨2, ![256, 1024]⟩
abbrev S1x1x256x256 : Shape := ⟨4, ![1, 1, 256, 256]⟩
abbrev S1x256x128 : Shape := ⟨3, ![1, 256, 128]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x2048, .bf16⟩
  | .hbm, ⟨3, _⟩ => ⟨S2x32x1024, .f32⟩
  | .hbm, ⟨4, _⟩ => ⟨S16384x1024, .bf16⟩
  | .local _ .vmem, ⟨0, _⟩ => ⟨S256x128, .f32⟩
  | .local _ .vmem, ⟨1, _⟩ => ⟨S256x128, .f32⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1x32x128, .f32⟩
  | .local _ .vmem, ⟨7, _⟩ => ⟨S1x32x128, .f32⟩
  | .local _ .vmem, ⟨8, _⟩ => ⟨S256x128, .bf16⟩
  | .local _ .vmem, ⟨9, _⟩ => ⟨S256x128, .bf16⟩
  | .local _ .vmem, ⟨10, _⟩ => ⟨S2x35x256x256, .f32⟩
  | .local _ .vmem, ⟨11, _⟩ => ⟨S2x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let c1_i32_44 : BitVec 32 := 1#32
  ⟨c0_i32_43, v154, c1_i32_44⟩
def k0_mult1 (i : grid0.Coords) (k0_t1 : Fin (k0_t1_loop i).trips) : BitVec 32 :=
  let c0_i32_43 : BitVec 32 := 0#32
  let c1_i32_44 : BitVec 32 := 1#32
  let arg10 : BitVec 32 := Scf.iv c0_i32_43 c1_i32_44 k0_t1
  let c1024_i32 : BitVec 32 := 1024#32
  let v286 : BitVec 32 := Scalar.muli arg10 c1024_i32
  v286
def k0_off1 (i : grid0.Coords) (k0_t1 : Fin (k0_t1_loop i).trips) : Fin 2 → Nat :=
  let c0_i32_43 : BitVec 32 := 0#32
  let c1_i32_44 : BitVec 32 := 1#32
  let arg10 : BitVec 32 := Scf.iv c0_i32_43 c1_i32_44 k0_t1
  let c1024_i32 : BitVec 32 := 1024#32
  let v286 : BitVec 32 := Scalar.muli arg10 c1024_i32
  let v287 : BitVec 32 := v286
  let v288 : Index := Scalar.indexCast v287
  let c0_125 : Index := 0#32
  ![v288.toNat, 0]
def k0_off2 (i : grid0.Coords) (k0_t1 : Fin (k0_t1_loop i).trips) (c0_i32_127 : BitVec 32) : Fin 4 → Nat :=
  let c0_128 : Index := 0#32
  let c0_i32_43 : BitVec 32 := 0#32
  let c1_i32_44 : BitVec 32 := 1#32
  let arg10 : BitVec 32 := Scf.iv c0_i32_43 c1_i32_44 k0_t1
  let c4_i32 : BitVec 32 := 4#32
  let v292 : BitVec 32 := Scalar.muli arg10 c4_i32
  let v293 : BitVec 32 := Scalar.addi v292 c0_i32_127
  let v294 : Index := Scalar.indexCast v293
  let c0_129 : Index := 0#32
  let c0_130 : Index := 0#32
  ![0, v294.toNat, 0, 0]
def k0_off3 (i : grid0.Coords) (k0_t1 : Fin (k0_t1_loop i).trips) (c0_i32_154 : BitVec 32) : Fin 4 → Nat :=
  let c1_155 : Index := 1#32
  let c0_i32_43 : BitVec 32 := 0#32
  let c1_i32_44 : BitVec 32 := 1#32
  let arg10 : BitVec 32 := Scf.iv c0_i32_43 c1_i32_44 k0_t1
  let c4_i32_153 : BitVec 32 := 4#32
  let v342 : BitVec 32 := Scalar.muli arg10 c4_i32_153
  let v343 : BitVec 32 := Scalar.addi v342 c0_i32_154
  let v344 : Index := Scalar.indexCast v343
  let c0_156 : Index := 0#32
  let c0_157 : Index := 0#32
  ![1, v344.toNat, 0, 0]
@[reducible] def k0_t2_loop (i : grid0.Coords) : Scf.Loop 32 :=
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let v151 : BitVec 32 := Scalar.addi c0_i32_43 v150
  let c1_i32_45 : BitVec 32 := 1#32
  ⟨v154, v151, c1_i32_45⟩
def k0_mult2 (i : grid0.Coords) (k0_t2 : Fin (k0_t2_loop i).trips) : BitVec 32 :=
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let c1_i32_45 : BitVec 32 := 1#32
  let arg10 : BitVec 32 := Scf.iv v154 c1_i32_45 k0_t2
  let c1024_i32 : BitVec 32 := 1024#32
  let v286 : BitVec 32 := Scalar.muli arg10 c1024_i32
  v286
def k0_off4 (i : grid0.Coords) (k0_t2 : Fin (k0_t2_loop i).trips) : Fin 2 → Nat :=
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let c1_i32_45 : BitVec 32 := 1#32
  let arg10 : BitVec 32 := Scf.iv v154 c1_i32_45 k0_t2
  let c1024_i32 : BitVec 32 := 1024#32
  let v286 : BitVec 32 := Scalar.muli arg10 c1024_i32
  let v287 : BitVec 32 := v286
  let v288 : Index := Scalar.indexCast v287
  let c0_125 : Index := 0#32
  ![v288.toNat, 0]
def k0_off5 (i : grid0.Coords) (k0_t2 : Fin (k0_t2_loop i).trips) (c0_i32_127 : BitVec 32) : Fin 4 → Nat :=
  let c0_128 : Index := 0#32
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let c1_i32_45 : BitVec 32 := 1#32
  let arg10 : BitVec 32 := Scf.iv v154 c1_i32_45 k0_t2
  let c4_i32 : BitVec 32 := 4#32
  let v292 : BitVec 32 := Scalar.muli arg10 c4_i32
  let v293 : BitVec 32 := Scalar.addi v292 c0_i32_127
  let v294 : Index := Scalar.indexCast v293
  let c0_129 : Index := 0#32
  let c0_130 : Index := 0#32
  ![0, v294.toNat, 0, 0]
def k0_off6 (i : grid0.Coords) (k0_t2 : Fin (k0_t2_loop i).trips) (c0_i32_154 : BitVec 32) : Fin 4 → Nat :=
  let c1_155 : Index := 1#32
  let c0_i32_43 : BitVec 32 := 0#32
  let arg2 : BitVec 32 := BitVec.ofNat 32 (i 2).val
  let c3_i32 : BitVec 32 := 3#32
  let v148 : BitVec 32 := Scalar.addi arg2 c3_i32
  let c2_i32 : BitVec 32 := 2#32
  let v149 : BitVec 32 := Scalar.shrui v148 c2_i32
  let v150 : BitVec 32 := Scalar.subi v149 c0_i32_43
  let c1_i32 : BitVec 32 := 1#32
  let v152 : BitVec 32 := Scalar.divsi v150 c1_i32
  let v153 : BitVec 32 := Scalar.muli v152 c1_i32
  let v154 : BitVec 32 := Scalar.addi c0_i32_43 v153
  let c1_i32_45 : BitVec 32 := 1#32
  let arg10 : BitVec 32 := Scf.iv v154 c1_i32_45 k0_t2
  let c4_i32_153 : BitVec 32 := 4#32
  let v342 : BitVec 32 := Scalar.muli arg10 c4_i32_153
  let v343 : BitVec 32 := Scalar.addi v342 c0_i32_154
  let v344 : Index := Scalar.indexCast v343
  let c0_156 : Index := 0#32
  let c0_157 : Index := 0#32
  ![1, v344.toNat, 0, 0]
def k0_mult3 (i : grid0.Coords) : BitVec 32 :=
  let arg2 : BitVec 32 := BitVec.ofNat 32 (i 2).val
  let c256_i32 : BitVec 32 := 256#32
  let v158 : BitVec 32 := Scalar.muli arg2 c256_i32
  v158
def k0_off7 (i : grid0.Coords) : Fin 2 → Nat :=
  let arg2 : BitVec 32 := BitVec.ofNat 32 (i 2).val
  let c256_i32 : BitVec 32 := 256#32
  let v158 : BitVec 32 := Scalar.muli arg2 c256_i32
  let v159 : BitVec 32 := v158
  let v160 : Index := Scalar.indexCast v159
  let c0_46 : Index := 0#32
  ![v160.toNat, 0]
def k0_off8 (i : grid0.Coords) : Fin 4 → Nat :=
  let c0_49 : Index := 0#32
  let arg2 : BitVec 32 := BitVec.ofNat 32 (i 2).val
  let v165 : Index := Scalar.indexCast arg2
  let c0_50 : Index := 0#32
  let c0_51 : Index := 0#32
  ![0, v165.toNat, 0, 0]
def k0_off9 (i : grid0.Coords) (c1_i32_53 : BitVec 32) : Fin 4 → Nat :=
  let c0_54 : Index := 0#32
  let arg2 : BitVec 32 := BitVec.ofNat 32 (i 2).val
  let v170 : BitVec 32 := Scalar.addi arg2 c1_i32_53
  let v171 : Index := Scalar.indexCast v170
  let c0_55 : Index := 0#32
  let c0_56 : Index := 0#32
  ![0, v171.toNat, 0, 0]
def k0_off10 (i : grid0.Coords) : Fin 4 → Nat :=
  let c1 : Index := 1#32
  let arg2 : BitVec 32 := BitVec.ofNat 32 (i 2).val
  let v203 : Index := Scalar.indexCast arg2
  let c0_76 : Index := 0#32
  let c0_77 : Index := 0#32
  ![1, v203.toNat, 0, 0]
def k0_off11 (i : grid0.Coords) (c1_i32_79 : BitVec 32) : Fin 4 → Nat :=
  let c1_80 : Index := 1#32
  let arg2 : BitVec 32 := BitVec.ofNat 32 (i 2).val
  let v208 : BitVec 32 := Scalar.addi arg2 c1_i32_79
  let v209 : Index := Scalar.indexCast v208
  let c0_81 : Index := 0#32
  let c0_82 : Index := 0#32
  ![1, v209.toNat, 0, 0]
@[reducible] def k0_t3_loop (i : grid0.Coords) : Scf.Loop 32 :=
  let c0_i32_104 : BitVec 32 := 0#32
  let arg2 : BitVec 32 := BitVec.ofNat 32 (i 2).val
  let c1_i32_100 : BitVec 32 := 1#32
  let v238 : BitVec 32 := Scalar.addi arg2 c1_i32_100
  let c3_i32_101 : BitVec 32 := 3#32
  let v239 : BitVec 32 := Scalar.addi v238 c3_i32_101
  let c2_i32_102 : BitVec 32 := 2#32
  let v240 : BitVec 32 := Scalar.shrui v239 c2_i32_102
  let v242 : BitVec 32 := Scalar.subi v240 c0_i32_104
  let c1_i32_105 : BitVec 32 := 1#32
  let v244 : BitVec 32 := Scalar.divsi v242 c1_i32_105
  let v245 : BitVec 32 := Scalar.muli v244 c1_i32_105
  let v246 : BitVec 32 := Scalar.addi c0_i32_104 v245
  let c1_i32_106 : BitVec 32 := 1#32
  ⟨c0_i32_104, v246, c1_i32_106⟩
def k0_off12 (i : grid0.Coords) (k0_t3 : Fin (k0_t3_loop i).trips) (c0_i32_128 : BitVec 32) : Fin 4 → Nat :=
  let c0_129 : Index := 0#32
  let c0_i32_104 : BitVec 32 := 0#32
  let c1_i32_106 : BitVec 32 := 1#32
  let arg10 : BitVec 32 := Scf.iv c0_i32_104 c1_i32_106 k0_t3
  let c4_i32 : BitVec 32 := 4#32
  let v288 : BitVec 32 := Scalar.muli arg10 c4_i32
  let v289 : BitVec 32 := Scalar.addi v288 c0_i32_128
  let v290 : Index := Scalar.indexCast v289
  let c0_130 : Index := 0#32
  let c0_131 : Index := 0#32
  ![0, v290.toNat, 0, 0]
def k0_mult4 (i : grid0.Coords) (k0_t3 : Fin (k0_t3_loop i).trips) : BitVec 32 :=
  let c0_i32_104 : BitVec 32 := 0#32
  let c1_i32_106 : BitVec 32 := 1#32
  let arg10 : BitVec 32 := Scf.iv c0_i32_104 c1_i32_106 k0_t3
  let c1024_i32 : BitVec 32 := 1024#32
  let v334 : BitVec 32 := Scalar.muli arg10 c1024_i32
  v334
def k0_off13 (i : grid0.Coords) (k0_t3 : Fin (k0_t3_loop i).trips) : Fin 2 → Nat :=
  let c0_i32_104 : BitVec 32 := 0#32
  let c1_i32_106 : BitVec 32 := 1#32
  let arg10 : BitVec 32 := Scf.iv c0_i32_104 c1_i32_106 k0_t3
  let c1024_i32 : BitVec 32 := 1024#32
  let v334 : BitVec 32 := Scalar.muli arg10 c1024_i32
  let v335 : BitVec 32 := v334
  let v336 : Index := Scalar.indexCast v335
  let c0_147 : Index := 0#32
  ![v336.toNat, 0]
@[reducible] def k0_t4_loop (i : grid0.Coords) : Scf.Loop 32 :=
  let c0_i32_104 : BitVec 32 := 0#32
  let arg2 : BitVec 32 := BitVec.ofNat 32 (i 2).val
  let c1_i32_100 : BitVec 32 := 1#32
  let v238 : BitVec 32 := Scalar.addi arg2 c1_i32_100
  let c3_i32_101 : BitVec 32 := 3#32
  let v239 : BitVec 32 := Scalar.addi v238 c3_i32_101
  let c2_i32_102 : BitVec 32 := 2#32
  let v240 : BitVec 32 := Scalar.shrui v239 c2_i32_102
  let v242 : BitVec 32 := Scalar.subi v240 c0_i32_104
  let c1_i32_105 : BitVec 32 := 1#32
  let v244 : BitVec 32 := Scalar.divsi v242 c1_i32_105
  let v245 : BitVec 32 := Scalar.muli v244 c1_i32_105
  let v246 : BitVec 32 := Scalar.addi c0_i32_104 v245
  let v243 : BitVec 32 := Scalar.addi c0_i32_104 v242
  let c1_i32_107 : BitVec 32 := 1#32
  ⟨v246, v243, c1_i32_107⟩
def k0_off14 (i : grid0.Coords) (k0_t4 : Fin (k0_t4_loop i).trips) (c0_i32_128 : BitVec 32) : Fin 4 → Nat :=
  let c0_129 : Index := 0#32
  let c0_i32_104 : BitVec 32 := 0#32
  let arg2 : BitVec 32 := BitVec.ofNat 32 (i 2).val
  let c1_i32_100 : BitVec 32 := 1#32
  let v238 : BitVec 32 := Scalar.addi arg2 c1_i32_100
  let c3_i32_101 : BitVec 32 := 3#32
  let v239 : BitVec 32 := Scalar.addi v238 c3_i32_101
  let c2_i32_102 : BitVec 32 := 2#32
  let v240 : BitVec 32 := Scalar.shrui v239 c2_i32_102
  let v242 : BitVec 32 := Scalar.subi v240 c0_i32_104
  let c1_i32_105 : BitVec 32 := 1#32
  let v244 : BitVec 32 := Scalar.divsi v242 c1_i32_105
  let v245 : BitVec 32 := Scalar.muli v244 c1_i32_105
  let v246 : BitVec 32 := Scalar.addi c0_i32_104 v245
  let c1_i32_107 : BitVec 32 := 1#32
  let arg10 : BitVec 32 := Scf.iv v246 c1_i32_107 k0_t4
  let c4_i32 : BitVec 32 := 4#32
  let v288 : BitVec 32 := Scalar.muli arg10 c4_i32
  let v289 : BitVec 32 := Scalar.addi v288 c0_i32_128
  let v290 : Index := Scalar.indexCast v289
  let c0_130 : Index := 0#32
  let c0_131 : Index := 0#32
  ![0, v290.toNat, 0, 0]
def k0_mult5 (i : grid0.Coords) (k0_t4 : Fin (k0_t4_loop i).trips) : BitVec 32 :=
  let c0_i32_104 : BitVec 32 := 0#32
  let arg2 : BitVec 32 := BitVec.ofNat 32 (i 2).val
  let c1_i32_100 : BitVec 32 := 1#32
  let v238 : BitVec 32 := Scalar.addi arg2 c1_i32_100
  let c3_i32_101 : BitVec 32 := 3#32
  let v239 : BitVec 32 := Scalar.addi v238 c3_i32_101
  let c2_i32_102 : BitVec 32 := 2#32
  let v240 : BitVec 32 := Scalar.shrui v239 c2_i32_102
  let v242 : BitVec 32 := Scalar.subi v240 c0_i32_104
  let c1_i32_105 : BitVec 32 := 1#32
  let v244 : BitVec 32 := Scalar.divsi v242 c1_i32_105
  let v245 : BitVec 32 := Scalar.muli v244 c1_i32_105
  let v246 : BitVec 32 := Scalar.addi c0_i32_104 v245
  let c1_i32_107 : BitVec 32 := 1#32
  let arg10 : BitVec 32 := Scf.iv v246 c1_i32_107 k0_t4
  let c1024_i32 : BitVec 32 := 1024#32
  let v334 : BitVec 32 := Scalar.muli arg10 c1024_i32
  v334
def k0_off15 (i : grid0.Coords) (k0_t4 : Fin (k0_t4_loop i).trips) : Fin 2 → Nat :=
  let c0_i32_104 : BitVec 32 := 0#32
  let arg2 : BitVec 32 := BitVec.ofNat 32 (i 2).val
  let c1_i32_100 : BitVec 32 := 1#32
  let v238 : BitVec 32 := Scalar.addi arg2 c1_i32_100
  let c3_i32_101 : BitVec 32 := 3#32
  let v239 : BitVec 32 := Scalar.addi v238 c3_i32_101
  let c2_i32_102 : BitVec 32 := 2#32
  let v240 : BitVec 32 := Scalar.shrui v239 c2_i32_102
  let v242 : BitVec 32 := Scalar.subi v240 c0_i32_104
  let c1_i32_105 : BitVec 32 := 1#32
  let v244 : BitVec 32 := Scalar.divsi v242 c1_i32_105
  let v245 : BitVec 32 := Scalar.muli v244 c1_i32_105
  let v246 : BitVec 32 := Scalar.addi c0_i32_104 v245
  let c1_i32_107 : BitVec 32 := 1#32
  let arg10 : BitVec 32 := Scf.iv v246 c1_i32_107 k0_t4
  let c1024_i32 : BitVec 32 := 1024#32
  let v334 : BitVec 32 := Scalar.muli arg10 c1024_i32
  let v335 : BitVec 32 := v334
  let v336 : Index := Scalar.indexCast v335
  let c0_147 : Index := 0#32
  ![v336.toNat, 0]
@[reducible] def k0_t5_loop (i : grid0.Coords) : Scf.Loop 32 :=
  let c0_i32_115 : BitVec 32 := 0#32
  let arg2 : BitVec 32 := BitVec.ofNat 32 (i 2).val
  let c1_i32_111 : BitVec 32 := 1#32
  let v259 : BitVec 32 := Scalar.addi arg2 c1_i32_111
  let c3_i32_112 : BitVec 32 := 3#32
  let v260 : BitVec 32 := Scalar.addi v259 c3_i32_112
  let c2_i32_113 : BitVec 32 := 2#32
  let v261 : BitVec 32 := Scalar.shrui v260 c2_i32_113
  let v263 : BitVec 32 := Scalar.subi v261 c0_i32_115
  let c1_i32_116 : BitVec 32 := 1#32
  let v265 : BitVec 32 := Scalar.divsi v263 c1_i32_116
  let v266 : BitVec 32 := Scalar.muli v265 c1_i32_116
  let v267 : BitVec 32 := Scalar.addi c0_i32_115 v266
  let c1_i32_117 : BitVec 32 := 1#32
  ⟨c0_i32_115, v267, c1_i32_117⟩
def k0_off16 (i : grid0.Coords) (k0_t5 : Fin (k0_t5_loop i).trips) (c0_i32_128 : BitVec 32) : Fin 4 → Nat :=
  let c1_129 : Index := 1#32
  let c0_i32_115 : BitVec 32 := 0#32
  let c1_i32_117 : BitVec 32 := 1#32
  let arg10 : BitVec 32 := Scf.iv c0_i32_115 c1_i32_117 k0_t5
  let c4_i32 : BitVec 32 := 4#32
  let v288 : BitVec 32 := Scalar.muli arg10 c4_i32
  let v289 : BitVec 32 := Scalar.addi v288 c0_i32_128
  let v290 : Index := Scalar.indexCast v289
  let c0_130 : Index := 0#32
  let c0_131 : Index := 0#32
  ![1, v290.toNat, 0, 0]
def k0_mult6 (i : grid0.Coords) (k0_t5 : Fin (k0_t5_loop i).trips) : BitVec 32 :=
  let c0_i32_115 : BitVec 32 := 0#32
  let c1_i32_117 : BitVec 32 := 1#32
  let arg10 : BitVec 32 := Scf.iv c0_i32_115 c1_i32_117 k0_t5
  let c1024_i32 : BitVec 32 := 1024#32
  let v334 : BitVec 32 := Scalar.muli arg10 c1024_i32
  v334
def k0_off17 (i : grid0.Coords) (k0_t5 : Fin (k0_t5_loop i).trips) : Fin 2 → Nat :=
  let c0_i32_115 : BitVec 32 := 0#32
  let c1_i32_117 : BitVec 32 := 1#32
  let arg10 : BitVec 32 := Scf.iv c0_i32_115 c1_i32_117 k0_t5
  let c1024_i32 : BitVec 32 := 1024#32
  let v334 : BitVec 32 := Scalar.muli arg10 c1024_i32
  let v335 : BitVec 32 := v334
  let v336 : Index := Scalar.indexCast v335
  let c128 : Index := 128#32
  ![v336.toNat, 128]
@[reducible] def k0_t6_loop (i : grid0.Coords) : Scf.Loop 32 :=
  let c0_i32_115 : BitVec 32 := 0#32
  let arg2 : BitVec 32 := BitVec.ofNat 32 (i 2).val
  let c1_i32_111 : BitVec 32 := 1#32
  let v259 : BitVec 32 := Scalar.addi arg2 c1_i32_111
  let c3_i32_112 : BitVec 32 := 3#32
  let v260 : BitVec 32 := Scalar.addi v259 c3_i32_112
  let c2_i32_113 : BitVec 32 := 2#32
  let v261 : BitVec 32 := Scalar.shrui v260 c2_i32_113
  let v263 : BitVec 32 := Scalar.subi v261 c0_i32_115
  let c1_i32_116 : BitVec 32 := 1#32
  let v265 : BitVec 32 := Scalar.divsi v263 c1_i32_116
  let v266 : BitVec 32 := Scalar.muli v265 c1_i32_116
  let v267 : BitVec 32 := Scalar.addi c0_i32_115 v266
  let v264 : BitVec 32 := Scalar.addi c0_i32_115 v263
  let c1_i32_118 : BitVec 32 := 1#32
  ⟨v267, v264, c1_i32_118⟩
def k0_off18 (i : grid0.Coords) (k0_t6 : Fin (k0_t6_loop i).trips) (c0_i32_128 : BitVec 32) : Fin 4 → Nat :=
  let c1_129 : Index := 1#32
  let c0_i32_115 : BitVec 32 := 0#32
  let arg2 : BitVec 32 := BitVec.ofNat 32 (i 2).val
  let c1_i32_111 : BitVec 32 := 1#32
  let v259 : BitVec 32 := Scalar.addi arg2 c1_i32_111
  let c3_i32_112 : BitVec 32 := 3#32
  let v260 : BitVec 32 := Scalar.addi v259 c3_i32_112
  let c2_i32_113 : BitVec 32 := 2#32
  let v261 : BitVec 32 := Scalar.shrui v260 c2_i32_113
  let v263 : BitVec 32 := Scalar.subi v261 c0_i32_115
  let c1_i32_116 : BitVec 32 := 1#32
  let v265 : BitVec 32 := Scalar.divsi v263 c1_i32_116
  let v266 : BitVec 32 := Scalar.muli v265 c1_i32_116
  let v267 : BitVec 32 := Scalar.addi c0_i32_115 v266
  let c1_i32_118 : BitVec 32 := 1#32
  let arg10 : BitVec 32 := Scf.iv v267 c1_i32_118 k0_t6
  let c4_i32 : BitVec 32 := 4#32
  let v288 : BitVec 32 := Scalar.muli arg10 c4_i32
  let v289 : BitVec 32 := Scalar.addi v288 c0_i32_128
  let v290 : Index := Scalar.indexCast v289
  let c0_130 : Index := 0#32
  let c0_131 : Index := 0#32
  ![1, v290.toNat, 0, 0]
def k0_mult7 (i : grid0.Coords) (k0_t6 : Fin (k0_t6_loop i).trips) : BitVec 32 :=
  let c0_i32_115 : BitVec 32 := 0#32
  let arg2 : BitVec 32 := BitVec.ofNat 32 (i 2).val
  let c1_i32_111 : BitVec 32 := 1#32
  let v259 : BitVec 32 := Scalar.addi arg2 c1_i32_111
  let c3_i32_112 : BitVec 32 := 3#32
  let v260 : BitVec 32 := Scalar.addi v259 c3_i32_112
  let c2_i32_113 : BitVec 32 := 2#32
  let v261 : BitVec 32 := Scalar.shrui v260 c2_i32_113
  let v263 : BitVec 32 := Scalar.subi v261 c0_i32_115
  let c1_i32_116 : BitVec 32 := 1#32
  let v265 : BitVec 32 := Scalar.divsi v263 c1_i32_116
  let v266 : BitVec 32 := Scalar.muli v265 c1_i32_116
  let v267 : BitVec 32 := Scalar.addi c0_i32_115 v266
  let c1_i32_118 : BitVec 32 := 1#32
  let arg10 : BitVec 32 := Scf.iv v267 c1_i32_118 k0_t6
  let c1024_i32 : BitVec 32 := 1024#32
  let v334 : BitVec 32 := Scalar.muli arg10 c1024_i32
  v334
def k0_off19 (i : grid0.Coords) (k0_t6 : Fin (k0_t6_loop i).trips) : Fin 2 → Nat :=
  let c0_i32_115 : BitVec 32 := 0#32
  let arg2 : BitVec 32 := BitVec.ofNat 32 (i 2).val
  let c1_i32_111 : BitVec 32 := 1#32
  let v259 : BitVec 32 := Scalar.addi arg2 c1_i32_111
  let c3_i32_112 : BitVec 32 := 3#32
  let v260 : BitVec 32 := Scalar.addi v259 c3_i32_112
  let c2_i32_113 : BitVec 32 := 2#32
  let v261 : BitVec 32 := Scalar.shrui v260 c2_i32_113
  let v263 : BitVec 32 := Scalar.subi v261 c0_i32_115
  let c1_i32_116 : BitVec 32 := 1#32
  let v265 : BitVec 32 := Scalar.divsi v263 c1_i32_116
  let v266 : BitVec 32 := Scalar.muli v265 c1_i32_116
  let v267 : BitVec 32 := Scalar.addi c0_i32_115 v266
  let c1_i32_118 : BitVec 32 := 1#32
  let arg10 : BitVec 32 := Scf.iv v267 c1_i32_118 k0_t6
  let c1024_i32 : BitVec 32 := 1024#32
  let v334 : BitVec 32 := Scalar.muli arg10 c1024_i32
  let v335 : BitVec 32 := v334
  let v336 : Index := Scalar.indexCast v335
  let c128 : Index := 128#32
  ![v336.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Ffn.lean ====
abbrev S16384x1024 : Shape := ⟨2, ![16384, 1024]⟩
abbrev S16384x256 : Shape := ⟨2, ![16384, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S1024x512 : Shape := ⟨2, ![1024, 512]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S256x1024, .bf16⟩
  | .hbm, ⟨15, _⟩ => ⟨S1024x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S256x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S16384x256 : Shape := ⟨2, ![16384, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== FfnS.lean ====
abbrev S32x1024 : Shape := ⟨2, ![32, 1024]⟩
abbrev S32x256 : Shape := ⟨2, ![32, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S32 : Shape := ⟨1, ![32]⟩
abbrev S32x1 : Shape := ⟨2, ![32, 1]⟩
abbrev S1024x768 : Shape := ⟨2, ![1024, 768]⟩
abbrev S32x768 : Shape := ⟨2, ![32, 768]⟩
abbrev S768x1024 : Shape := ⟨2, ![768, 1024]⟩
abbrev S1024x512 : Shape := ⟨2, ![1024, 512]⟩
abbrev S32x512 : Shape := ⟨2, ![32, 512]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S32x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S32x1024, .f32⟩
  | .local _ .vmem, ⟨0, _⟩ => ⟨S32x1024, .f32⟩
  | .local _ .vmem, ⟨1, _⟩ => ⟨S32x256, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1x1024, .f32⟩
  | .local _ .vmem, ⟨7, _⟩ => ⟨S256x1024, .f32⟩
  | .local _ .vmem, ⟨8, _⟩ => ⟨S1024x1024, .f32⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnSRefIdeal.lean ====
abbrev S32x1024 : Shape := ⟨2, ![32, 1024]⟩
abbrev S32x256 : Shape := ⟨2, ![32, 256]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2816 : Shape := ⟨2, ![32, 2816]⟩

abbrev nBuf : Space → Nat
  | .hbm => 67
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S256x1024, .f32⟩
  | .hbm, ⟨8, _⟩ => ⟨S1024x1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x1024, .f32⟩
  | .hbm, ⟨21, _⟩ => ⟨S32x1024, .f32⟩
  | .hbm, ⟨22, _⟩ => ⟨S1x1024, .f32⟩
  | .hbm, ⟨23, _⟩ => ⟨S32x1024, .f32⟩
  | .hbm, ⟨24, _⟩ => ⟨S32x1024, .f32⟩
  | .hbm, ⟨25, _⟩ => ⟨S32x2816, .f32⟩
  | .hbm, ⟨26, _⟩ => ⟨S32x2816, .f32⟩
  | .hbm, ⟨27, _⟩ => ⟨S32x2816, .f32⟩
  | .hbm, ⟨28, _⟩ => ⟨S_, .f32⟩
  | .hbm, ⟨29, _⟩ => ⟨S32x2816, .f32⟩
  | .hbm, ⟨30, _⟩ => ⟨S32x2816, .f32⟩
  | .hbm, ⟨31, _⟩ => ⟨S_, .f32⟩
  | .hbm, ⟨32, _⟩ => ⟨S32x2816, .f32⟩
  | .hbm, ⟨33, _⟩ => ⟨S32x2816, .f32⟩
  | .hbm, ⟨34, _⟩ => ⟨S32x2816, .f32⟩
  | .hbm, ⟨35, _⟩ => ⟨S32x2816, .f32⟩
  | .hbm, ⟨36, _⟩ => ⟨S32x2816, .f32⟩
  | .hbm, ⟨37, _⟩ => ⟨S32x1024, .f32⟩
  | .hbm, ⟨38, _⟩ => ⟨S32x1024, .f32⟩
  | .hbm, ⟨39, _⟩ => ⟨S32x1024, .f32⟩
  | .hbm, ⟨40, _⟩ => ⟨S32x1024, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x1024, .f32⟩
  | .hbm, ⟨52, _⟩ => ⟨S32x1024, .f32⟩
  | .hbm, ⟨53, _⟩ => ⟨S1x1024, .f32⟩
  | .hbm, ⟨54, _⟩ => ⟨S32x1024, .f32⟩
  | .hbm, ⟨55, _⟩ => ⟨S32x1024, .f32⟩
  | .hbm, ⟨56, _⟩ => ⟨S32x1024, .f32⟩
  | .hbm, ⟨57, _⟩ => ⟨S32x1024, .f32⟩
  | .hbm, ⟨58, _⟩ => ⟨S32x1024, .f32⟩
  | .hbm, ⟨59, _⟩ => ⟨S_, .f32⟩
  | .hbm, ⟨60, _⟩ => ⟨S32x1024, .f32⟩
  | .hbm, ⟨61, _⟩ => ⟨S32x1024, .f32⟩
  | .hbm, ⟨62, _⟩ => ⟨S_, .f32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Oproj.lean ====
abbrev S16384x1024 : Shape := ⟨2, ![16384, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S1x128, .f32⟩
  | .hbm, ⟨6, _⟩ => ⟨S1024x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S16384x1024 : Shape := ⟨2, ![16384, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S1x128, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== OprojS.lean ====
abbrev S32x1024 : Shape := ⟨2, ![32, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S1x1024 : Shape := ⟨2, ![1, 1024]⟩
abbrev S32x128 : Shape := ⟨2, ![32, 128]⟩
abbrev S32 : Shape := ⟨1, ![32]⟩
abbrev S32x1 : Shape := ⟨2, ![32, 1]⟩

abbrev nBuf : Space → Nat
  | .hbm => 10
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S1x128, .f32⟩
  | .hbm, ⟨6, _⟩ => ⟨S1x1024, .f32⟩
  | .hbm, ⟨7, _⟩ => ⟨S32x1024, .f32⟩
  | .hbm, ⟨8, _⟩ => ⟨S32x1024, .bf16⟩
  | .hbm, ⟨9, _⟩ => ⟨S32x128, .f32⟩
  | .local _ .vmem, ⟨0, _⟩ => ⟨S32x1024, .f32⟩
  | .local _ .vmem, ⟨1, _⟩ => ⟨S32x1024, .f32⟩
  | .local _ .vmem, ⟨2, _⟩ => ⟨S1024x1024, .f32⟩
  | .local _ .vmem, ⟨3, _⟩ => ⟨S1x1024, .f32⟩
  | .local _ .vmem, ⟨4, _⟩ => ⟨S1024x128, .f32⟩
  | .local _ .vmem, ⟨5, _⟩ => ⟨S1x128, .f32⟩
  | .local _ .vmem, ⟨6, _⟩ => ⟨S32x1024, .f32⟩
  | .local _ .vmem, ⟨7, _⟩ => ⟨S32x1024, .bf16⟩
  | .local _ .vmem, ⟨8, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OprojSRefIdeal.lean ====
abbrev S32x1024 : Shape := ⟨2, ![32, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S1024x128, .f32⟩
  | .hbm, ⟨5, _⟩ => ⟨S1x128, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x1024, .f32⟩
  | .hbm, ⟨20, _⟩ => ⟨S32x1024, .f32⟩
  | .hbm, ⟨21, _⟩ => ⟨S1x1024, .f32⟩
  | .hbm, ⟨22, _⟩ => ⟨S32x1024, .f32⟩
  | .hbm, ⟨23, _⟩ => ⟨S32x1024, .f32⟩
  | .hbm, ⟨24, _⟩ => ⟨S32x1024, .bf16⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Select.lean ====
abbrev S32x16x128 : Shape := ⟨3, ![32, 16, 128]⟩
abbrev S1x16x128 : Shape := ⟨3, ![1, 16, 128]⟩
abbrev S16x128 : Shape := ⟨2, ![16, 128]⟩
abbrev S1x128 : Shape := ⟨2, ![1, 128]⟩
abbrev S16 : Shape := ⟨1, ![16]⟩
abbrev S16x1 : Shape := ⟨2, ![16, 1]⟩

abbrev nBuf : Space → Nat
  | .hbm => 2
  | .vmem => 4
  | .smem => 0
  | _ => 0

abbrev bufTy : (tb : Table) → Fin (tcTables nBuf tb) → BufTy
  | .hbm, ⟨0, _⟩ => ⟨S32x16x128, .f32⟩
  | .hbm, ⟨1, _⟩ => ⟨S32x16x128, .i32⟩
  | .local _ .vmem, ⟨0, _⟩ => ⟨S1x16x128, .f32⟩
  | .local _ .vmem, ⟨1, _⟩ => ⟨S1x16x128, .f32⟩
  | .local _ .vmem, ⟨2, _⟩ => ⟨S1x16x128, .i32⟩
  | .local _ .vmem, ⟨3, _⟩ => ⟨S1x16x128, .i32⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Proof.PleFinal.lean ====
/-
  The per-layer embedding kernel's result array is the reference's answer.
-/
module

public import proofs.«01_k».proof.Defs
public import proofs.«01_k».proof.Proof.Gen.PleIdeal.Frame
public import proofs.«01_k».proof.Proof.Gen.PleRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.PleIdeal.Steps

open Cert.PleIdeal Cert.PleIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

open Cert.PleRefIdeal.Read in
/-- What a point stores is the reference's answer at the place it is stored to, and the blocks tile the array. -/
theorem final (c : Dev nD) : (dats m 0 c).arrAt 6 (cfgs 0).N
    = Cert.PleRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  pointwise [k0_pay1, k0_pay2, k0_pay3, val_main_cst, val_main_cst_0, val_main_cst_1, val_main_cst_2,
    val_main_cst_3, val_main_cst_4, val_main_cst_5, val_main_cst_6, val_main_v0, val_main_v1,
    val_main_v10, val_main_v11, val_main_v12, val_main_v13, val_main_v14, val_main_v15, val_main_v16,
    val_main_v17, val_main_v18, val_main_v19, val_main_v2, val_main_v20, val_main_v21, val_main_v22,
    val_main_v23, val_main_v24, val_main_v25, val_main_v26, val_main_v27, val_main_v28, val_main_v29,
    val_main_v3, val_main_v30, val_main_v31, val_main_v32, val_main_v33, val_main_v34, val_main_v35,
    val_main_v4, val_main_v5, val_main_v6, val_main_v7, val_main_v8, val_main_v9]
  simp only [Ideal.logistic]
  blk_point [iblk, V, idx t]

end Cert.PleIdeal.Steps
-- ==== Proof.PleSFinal.lean ====
/-
  The per-layer embedding kernel's result array is the reference's answer.
-/
module

public import proofs.«01_k».proof.Defs
public import proofs.«01_k».proof.Proof.Gen.PleSIdeal.Frame
public import proofs.«01_k».proof.Proof.Gen.PleSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.PleSIdeal.Steps

open Cert.PleSIdeal Cert.PleSIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

open Cert.PleSRefIdeal.Read in
/-- What a point stores is the reference's answer at the place it is stored to, and the blocks tile the array. -/
theorem final (c : Dev nD) : (dats m 0 c).arrAt 6 (cfgs 0).N
    = Cert.PleSRefIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  pointwise [k0_pay1, k0_pay2, k0_pay3, val_main_cst, val_main_cst_0, val_main_cst_1, val_main_cst_2,
    val_main_cst_3, val_main_cst_4, val_main_cst_5, val_main_cst_6, val_main_v0, val_main_v1,
    val_main_v10, val_main_v11, val_main_v12, val_main_v13, val_main_v14, val_main_v15, val_main_v16,
    val_main_v17, val_main_v18, val_main_v19, val_main_v2, val_main_v20, val_main_v21, val_main_v22,
    val_main_v23, val_main_v24, val_main_v25, val_main_v26, val_main_v27, val_main_v28, val_main_v29,
    val_main_v3, val_main_v30, val_main_v31, val_main_v32, val_main_v33, val_main_v34, val_main_v35,
    val_main_v4, val_main_v5, val_main_v6, val_main_v7, val_main_v8, val_main_v9]
  simp only [Ideal.logistic]
  blk_point [iblk, V, idx t]

end Cert.PleSIdeal.Steps
-- ==== Proof.QkvTiles.lean ====
/-
  The rotary projection of the prompt tokens: what one tile stores to its query and key blocks.
-/
module

public import proofs.«01_k».proof.Defs
public import proofs.«01_k».proof.Proof.Gen.QkvIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.QkvIdeal.Steps

open Cert.QkvIdeal Cert.QkvIdeal.Gen Idealize.ShloMosaic Idealize.ShloMosaic.TcCoe Idealize.SL.Sem

variable (m : (ℓ : Loc nD τ sig) → Buf (Elt Ideal) ℓ)

/-- The lane mask marks the first half of each head. -/
theorem mask_at (l : Fin 128) : (k0_pay8 (ix2 0 l) : BitVec 1) = if (l : ℕ) % 64 < 32 then 1#1 else 0#1 := by
  revert l; decide +kernel

/-- One entry of a rotated row: the projection times the cosine, plus its partner in the head times the signed sine. -/
def rotated (T : FVec Ideal S512x3072 .f32) (C S : FVec Ideal S512x128 .f32) (i : Fin 512) (off : ℕ) (h : off ≤ 2048) (j : Fin 1024) : EReal :=
  T (ix2 i ⟨off + j, by omega⟩) * C (ix2 i ⟨j % 128, by omega⟩)
    + (if (j : ℕ) % 64 < 32 then T (ix2 i ⟨off + (j / 128 * 128 + (j % 128 + 32) % 128), by omega⟩)
        else T (ix2 i ⟨off + (j / 128 * 128 + (j % 128 + 96) % 128), by omega⟩)) * S (ix2 i ⟨j % 128, by omega⟩)

/-- The query strips, one formula. -/
theorem q_at (c : Dev nD) (t : Fin cfg0.N) (y : S512x1024.Idx) : (outsAt0 (F := Ideal) m c t).1 y
      = rotated (k0_pay2 (F := Ideal) (iblk m c 0 t) (iblk m c 1 t) (iblk m c 2 t))
          (k0_pay7 (F := Ideal) (k0_pay4 (grid0.coords t)) (k0_pay5 (iblk m c 3 t)))
          (k0_pay9 (F := Ideal) (k0_pay4 (grid0.coords t)) (k0_pay5 (iblk m c 3 t))) (y 0) 0 (by omega) (y 1) := by
  unfold outsAt0
  frame_out
  unfold k0_pay14
  have hM := mask_at
  generalize k0_pay7 (F := Ideal) (k0_pay4 (grid0.coords t)) (k0_pay5 (iblk m c 3 t)) = C
  generalize k0_pay9 (F := Ideal) (k0_pay4 (grid0.coords t)) (k0_pay5 (iblk m c 3 t)) = S
  generalize k0_pay2 (F := Ideal) (iblk m c 0 t) (iblk m c 1 t) (iblk m c 2 t) = T
  generalize k0_pay8 = M at hM ⊢
  unfold rotated
  canon_tiles x h
  all_goals
    pointwise [k0_pay21, k0_pay27, k0_pay33, k0_pay42, k0_pay53, k0_pay34, k0_pay35, k0_pay36, k0_pay43, k0_pay44, k0_pay45, k0_pay46, k0_pay47, k0_pay54, k0_pay55, k0_pay56, k0_pay57, k0_pay63, k0_pay64, k0_pay65, k0_pay71, k0_pay72]
    have hm := hM (x 1)
    by_cases hl : (x 1 : ℕ) % 64 < 32
    · rw [if_pos hl] at hm
      rw [if_pos (show (y 1 : ℕ) % 64 < 32 by omega), hm, Scalar.select, if_pos (by decide)]
      refine congrArg₂ (· + ·) (congrArg₂ (· * ·) ?_ ?_) (congrArg₂ (· * ·) ?_ ?_) <;> blk_ext
    · rw [if_neg hl] at hm
      rw [if_neg (show ¬ (y 1 : ℕ) % 64 < 32 by omega), hm, Scalar.select, if_neg (by decide)]
      refine congrArg₂ (· + ·) (congrArg₂ (· * ·) ?_ ?_) (congrArg₂ (· * ·) ?_ ?_) <;> blk_ext

/-- The key strips, one formula. -/
theorem k_at (c : Dev nD) (t : Fin cfg0.N) (y : S512x1024.Idx) : (outsAt0 (F := Ideal) m c t).2.1 y
      = rotated (k0_pay2 (F := Ideal) (iblk m c 0 t) (iblk m c 1 t) (iblk m c 2 t))
          (k0_pay7 (F := Ideal) (k0_pay4 (grid0.coords t)) (k0_pay5 (iblk m c 3 t)))
          (k0_pay9 (F := Ideal) (k0_pay4 (grid0.coords t)) (k0_pay5 (iblk m c 3 t))) (y 0) 1024 (by omega) (y 1) := by
  unfold outsAt0
  frame_out
  have hM := mask_at
  generalize k0_pay7 (F := Ideal) (k0_pay4 (grid0.coords t)) (k0_pay5 (iblk m c 3 t)) = C
  generalize k0_pay9 (F := Ideal) (k0_pay4 (grid0.coords t)) (k0_pay5 (iblk m c 3 t)) = S
  generalize k0_pay2 (F := Ideal) (iblk m c 0 t) (iblk m c 1 t) (iblk m c 2 t) = T
  generalize k0_pay8 = M at hM ⊢
  unfold rotated
  canon_tiles x h
  all_goals
    pointwise [k0_pay15, k0_pay16, k0_pay22, k0_pay28, k0_pay37, k0_pay42, k0_pay48, k0_pay53, k0_pay58, k0_pay66, k0_pay73]
    have hm := hM (x 1)
    by_cases hl : (x 1 : ℕ) % 64 < 32
    · rw [if_pos hl] at hm
      rw [if_pos (show (y 1 : ℕ) % 64 < 32 by omega), hm, Scalar.select, if_pos (by decide)]
      refine congrArg₂ (· + ·) (congrArg₂ (· * ·) ?_ ?_) (congrArg₂ (· * ·) ?_ ?_) <;> blk_ext
    · rw [if_neg hl] at hm
      rw [if_neg (show ¬ (y 1 : ℕ) % 64 < 32 by omega), hm, Scalar.select, if_neg (by decide)]
      refine congrArg₂ (· + ·) (congrArg₂ (· * ·) ?_ ?_) (congrArg₂ (· * ·) ?_ ?_) <;> blk_ext

end Cert.QkvIdeal.Steps

end

end
-- ==== Proof.QkvFinal.lean ====
/-
  The rotary projection of the prompt tokens: its three result arrays are the reference's answers.
-/
module

public import proofs.«01_k».proof.Defs
public import proofs.«01_k».proof.Proof.QkvTiles
public import proofs.«01_k».proof.Proof.Gen.QkvRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.QkvIdeal.Steps

open Cert.QkvIdeal Cert.QkvIdeal.Gen Cert.QkvRefIdeal.Read Idealize.ShloMosaic Idealize.ShloMosaic.TcCoe Idealize.SL.Sem

variable (m : (ℓ : Loc nD τ sig) → Buf (Elt Ideal) ℓ)

/-- Which block each window holds at each grid point. -/
theorem idx (t : Fin cfg0.N) : win0_0.index  t = ![(t : ℕ), 0] ∧ win0_1.index  t = ![0, 0]
    ∧ win0_2.index  t = ![0, 0] ∧ win0_3.index  t = ![0, 0] ∧ win0_4.index  t = ![(t : ℕ), 0]
    ∧ win0_5.index  t = ![(t : ℕ), 0] ∧ win0_6.index  t = ![(t : ℕ), 0] := by
  revert t; decide +kernel

/-- A row of a tile is a row of the array. -/
theorem row_lt (t : Fin cfg0.N) (i : Fin 512) : 512 * (t : ℕ) + (i : ℕ) < 16384 := by
  have h : (t : ℕ) < 32 := t.isLt
  omega

/-- The projection is the reference's. -/
theorem proj (c : Dev nD) (t : Fin cfg0.N) (i : Fin 512) (n : Fin 3072) :
    k0_pay2 (F := Ideal) (iblk m c 0 t) (iblk m c 1 t) (iblk m c 2 t) (ix2 i n)
      = val_main_v16 (F := Ideal) (m ((c : Thread nD τ).loc main_arg0)) (m ((c : Thread nD τ).loc main_arg1)) (m ((c : Thread nD τ).loc main_arg2)) (ix2 ⟨512 * (t : ℕ) + (i : ℕ), row_lt t i⟩ n) := by
  pointwise [k0_pay2, val_main_cst, val_main_cst_0, val_main_cst_1, val_main_v3, val_main_v4, val_main_v5, val_main_v6, val_main_v7, val_main_v8, val_main_v9, val_main_v10, val_main_v11, val_main_v12, val_main_v13, val_main_v14, val_main_v15, val_main_v16]
  blk_point [iblk, V, idx t]

/-- The staged table of frequencies, lane by lane. -/
theorem freq (c : Dev nD) (t : Fin cfg0.N) (l : Fin 128) :
    iblk m c 3 t (ix2 0 l) = val_main_v25 (F := Ideal) (ix1 ⟨(l : ℕ) % 32, by omega⟩) := by
  blk_simp [iblk, idx t]
  entry_read
  pointwise [val_main_v20, val_main_v21, val_main_v22, val_main_v23, val_main_v24, val_main_v25, val_main_cst_2, val_main_cst_3]
  blk_simp [idx t]

/-- Where a tile's sequence positions start. -/
theorem start_at (t : Fin cfg0.N) : (k0_pay3 (grid0.coords t) (ix2 0 0) : BitVec 32) = BitVec.ofNat 32 (512 * (t : ℕ) % 8192) := by
  revert t; decide +kernel

/-- The remainder of a row number, tile by tile. -/
theorem wrap_at : ∀ (t : Fin 32) (i : Fin 512), IntOp.remsi ArithUnit.host (BitVec.ofNat 32 (512 * (t : ℕ) + (i : ℕ))) 8192#32
    = BitVec.ofNat 32 (512 * (t : ℕ) % 8192) + BitVec.ofNat 32 (i : ℕ) := by
  decide +kernel

/-- A row's position is the reference's. -/
theorem pos_at (t : Fin cfg0.N) (i : Fin 512) :
    (k0_pay3 (grid0.coords t) (ix2 i 0) : BitVec 32) = (val_main_v2 (F := Ideal) (ix1 ⟨512 * (t : ℕ) + (i : ℕ), row_lt t i⟩) : BitVec 32) := by
  have h := start_at t
  pointwise [k0_pay3] at h
  pointwise [k0_pay3, val_main_v0, val_main_c, val_main_v1, val_main_v2]
  refine Eq.trans ?_ (wrap_at t i).symm
  generalize Scalar.addi 0#32 _ = w at h ⊢
  rw [← h]
  show w + _ = (w + 0#32) + _
  rw [BitVec.add_zero]

/-- The rotation angle is the reference's. -/
theorem angle (c : Dev nD) (t : Fin cfg0.N) (i : Fin 512) (l : Fin 128) :
    k0_pay6 (F := Ideal) (k0_pay4 (grid0.coords t)) (k0_pay5 (iblk m c 3 t)) (ix2 i l)
      = val_main_v29 (F := Ideal) (ix2 ⟨512 * (t : ℕ) + (i : ℕ), row_lt t i⟩ ⟨(l : ℕ) % 32, by omega⟩) := by
  have hf := freq m c t l
  have hp := pos_at t i
  generalize iblk m c 3 t = B at hf ⊢
  pointwise [k0_pay6, k0_pay5, val_main_v26, val_main_v27, val_main_v28, val_main_v29]
  refine congrArg₂ (· * ·) ?_ hf
  unfold k0_pay4 val_main_v19 val_main_v18
  generalize k0_pay3 (grid0.coords t) = P at hp ⊢
  generalize val_main_v2 (F := Ideal) = Q at hp ⊢
  pointwise []
  rw [hp]

set_option maxHeartbeats 4000000 in
/-- A query entry is the reference's. -/
theorem core_q (c : Dev nD) (t : Fin cfg0.N) (i : Fin 512) (jj : Fin 1024) :
    rotated (k0_pay2 (F := Ideal) (iblk m c 0 t) (iblk m c 1 t) (iblk m c 2 t)) (k0_pay7 (F := Ideal) (k0_pay4 (grid0.coords t)) (k0_pay5 (iblk m c 3 t)))
        (k0_pay9 (F := Ideal) (k0_pay4 (grid0.coords t)) (k0_pay5 (iblk m c 3 t))) i 0 (by omega) jj
      = val_main_v49 (F := Ideal) (m ((c : Thread nD τ).loc main_arg0)) (m ((c : Thread nD τ).loc main_arg1)) (m ((c : Thread nD τ).loc main_arg2)) (ix2 ⟨512 * (t : ℕ) + (i : ℕ), row_lt t i⟩ jj) := by
  unfold rotated
  have hm := mask_at ⟨(jj : ℕ) % 128, by omega⟩
  have ha := angle m c t i ⟨(jj : ℕ) % 128, by omega⟩
  simp only [proj]
  unfold k0_pay7 k0_pay9
  generalize k0_pay6 (F := Ideal) (k0_pay4 (grid0.coords t)) (k0_pay5 (iblk m c 3 t)) = g at ha ⊢
  by_cases hl : (jj : ℕ) % 64 < 32
  · rw [if_pos hl]
    rw [if_pos (show (jj : ℕ) % 128 % 64 < 32 by omega)] at hm
    pointwise [val_main_v17, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
    rw [dif_pos hl]
    generalize g (ix2 i ⟨(jj : ℕ) % 128, _⟩) = f at ha ⊢
    generalize k0_pay8 (ix2 0 ⟨(jj : ℕ) % 128, _⟩) = b at hm ⊢
    subst hm ha
    show _ * _ + _ * (0 - Ideal.sin _) = _ - _
    rw [zero_sub, mul_neg, ← sub_eq_add_neg]
    refine congrArg₂ (· - ·) (congrArg₂ (· * ·) ?_ ?_) (congrArg₂ (· * ·) ?_ ?_) <;> blk_point []
  · rw [if_neg hl]
    rw [if_neg (show ¬ (jj : ℕ) % 128 % 64 < 32 by omega)] at hm
    pointwise [val_main_v17, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
    rw [dif_neg hl]
    generalize g (ix2 i ⟨(jj : ℕ) % 128, _⟩) = f at ha ⊢
    generalize k0_pay8 (ix2 0 ⟨(jj : ℕ) % 128, _⟩) = b at hm ⊢
    subst hm ha
    show _ * _ + _ * Ideal.sin _ = _ + _
    refine congrArg₂ (· + ·) (congrArg₂ (· * ·) ?_ ?_) (congrArg₂ (· * ·) ?_ ?_) <;> blk_point []

set_option maxHeartbeats 4000000 in
/-- A key entry is the reference's. -/
theorem core_k (c : Dev nD) (t : Fin cfg0.N) (i : Fin 512) (jj : Fin 1024) :
    rotated (k0_pay2 (F := Ideal) (iblk m c 0 t) (iblk m c 1 t) (iblk m c 2 t)) (k0_pay7 (F := Ideal) (k0_pay4 (grid0.coords t)) (k0_pay5 (iblk m c 3 t)))
        (k0_pay9 (F := Ideal) (k0_pay4 (grid0.coords t)) (k0_pay5 (iblk m c 3 t))) i 1024 (by omega) jj
      = val_main_v65 (F := Ideal) (m ((c : Thread nD τ).loc main_arg0)) (m ((c : Thread nD τ).loc main_arg1)) (m ((c : Thread nD τ).loc main_arg2)) (ix2 ⟨512 * (t : ℕ) + (i : ℕ), row_lt t i⟩ jj) := by
  unfold rotated
  have hm := mask_at ⟨(jj : ℕ) % 128, by omega⟩
  have ha := angle m c t i ⟨(jj : ℕ) % 128, by omega⟩
  simp only [proj]
  unfold k0_pay7 k0_pay9
  generalize k0_pay6 (F := Ideal) (k0_pay4 (grid0.coords t)) (k0_pay5 (iblk m c 3 t)) = g at ha ⊢
  by_cases hl : (jj : ℕ) % 64 < 32
  · rw [if_pos hl]
    rw [if_pos (show (jj : ℕ) % 128 % 64 < 32 by omega)] at hm
    pointwise [val_main_v17, val_main_v30, val_main_v31, val_main_v32, val_main_v33, val_main_v50, val_main_v51, val_main_v52, val_main_v53, val_main_v54, val_main_v55, val_main_v56, val_main_v57, val_main_v58, val_main_v59, val_main_v60, val_main_v61, val_main_v62, val_main_v63, val_main_v64, val_main_v65]
    rw [dif_pos hl]
    generalize g (ix2 i ⟨(jj : ℕ) % 128, _⟩) = f at ha ⊢
    generalize k0_pay8 (ix2 0 ⟨(jj : ℕ) % 128, _⟩) = b at hm ⊢
    subst hm ha
    show _ * _ + _ * (0 - Ideal.sin _) = _ - _
    rw [zero_sub, mul_neg, ← sub_eq_add_neg]
    refine congrArg₂ (· - ·) (congrArg₂ (· * ·) ?_ ?_) (congrArg₂ (· * ·) ?_ ?_) <;> blk_point []
  · rw [if_neg hl]
    rw [if_neg (show ¬ (jj : ℕ) % 128 % 64 < 32 by omega)] at hm
    pointwise [val_main_v17, val_main_v30, val_main_v31, val_main_v32, val_main_v33, val_main_v50, val_main_v51, val_main_v52, val_main_v53, val_main_v54, val_main_v55, val_main_v56, val_main_v57, val_main_v58, val_main_v59, val_main_v60, val_main_v61, val_main_v62, val_main_v63, val_main_v64, val_main_v65]
    rw [dif_neg hl]
    generalize g (ix2 i ⟨(jj : ℕ) % 128, _⟩) = f at ha ⊢
    generalize k0_pay8 (ix2 0 ⟨(jj : ℕ) % 128, _⟩) = b at hm ⊢
    subst hm ha
    show _ * _ + _ * Ideal.sin _ = _ + _
    refine congrArg₂ (· + ·) (congrArg₂ (· * ·) ?_ ?_) (congrArg₂ (· * ·) ?_ ?_) <;> blk_point []

/-- The value strip is the projection's last third. -/
theorem v_at (c : Dev nD) (t : Fin cfg0.N) (y : S512x1024.Idx) : (outsAt0 (F := Ideal) m c t).2.2.1 y
      = k0_pay2 (F := Ideal) (iblk m c 0 t) (iblk m c 1 t) (iblk m c 2 t) (ix2 (y 0) ⟨2048 + (y 1 : ℕ), by have : (y 1 : ℕ) < 1024 := (y 1).isLt; omega⟩) := by
  unfold outsAt0
  frame_out
  generalize k0_pay2 (F := Ideal) (iblk m c 0 t) (iblk m c 1 t) (iblk m c 2 t) = T
  pointwise [k0_pay10]

/-- A value entry is the reference's. -/
theorem core_v (c : Dev nD) (t : Fin cfg0.N) (i : Fin 512) (j : Fin 1024) :
    k0_pay2 (F := Ideal) (iblk m c 0 t) (iblk m c 1 t) (iblk m c 2 t) (ix2 i ⟨2048 + (j : ℕ), by omega⟩)
      = val_main_v68 (F := Ideal) (m ((c : Thread nD τ).loc main_arg0)) (m ((c : Thread nD τ).loc main_arg1)) (m ((c : Thread nD τ).loc main_arg2)) (ix2 ⟨512 * (t : ℕ) + (i : ℕ), row_lt t i⟩ j) := by
  rw [proj]
  generalize m ((c : Thread nD τ).loc main_arg0) = x0
  generalize m ((c : Thread nD τ).loc main_arg1) = x1
  generalize m ((c : Thread nD τ).loc main_arg2) = x2
  rw [val_main_v68_apply, val_main_v67_apply, val_main_v66_apply, val_main_v17_apply]
  generalize val_main_v16 (F := Ideal) x0 x1 x2 = T
  blk_ext

set_option maxHeartbeats 1000000 in
/-- The query array after the run. -/
theorem final4 (c : Dev nD) : (dats m 0 c).arrAt 4 (cfgs 0).N = val_main_v49 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (q_at m c t y).trans ((core_q m c t (y 0) (y 1)).trans (congrArg _ (funext fun a => ?_)))
  match a with
  | 0 => exact Fin.ext (by show 512 * (t : ℕ) + (y 0 : ℕ) = _; blk_simp [idx t]; omega)
  | 1 => exact Fin.ext (by blk_simp [idx t])

set_option maxHeartbeats 1000000 in
/-- The key array after the run. -/
theorem final5 (c : Dev nD) : (dats m 0 c).arrAt 5 (cfgs 0).N = val_main_v65 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (k_at m c t y).trans ((core_k m c t (y 0) (y 1)).trans (congrArg _ (funext fun a => ?_)))
  match a with
  | 0 => exact Fin.ext (by show 512 * (t : ℕ) + (y 0 : ℕ) = _; blk_simp [idx t]; omega)
  | 1 => exact Fin.ext (by blk_simp [idx t])

set_option maxHeartbeats 1000000 in
/-- The value array after the run. -/
theorem final6 (c : Dev nD) : (dats m 0 c).arrAt 6 (cfgs 0).N = val_main_v68 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine (v_at m c t y).trans ((core_v m c t (y 0) (y 1)).trans (congrArg _ (funext fun a => ?_)))
  match a with
  | 0 => exact Fin.ext (by show 512 * (t : ℕ) + (y 0 : ℕ) = _; blk_simp [idx t]; omega)
  | 1 => exact Fin.ext (by blk_simp [idx t])

end Cert.QkvIdeal.Steps

end

end
-- ==== Proof.QkvSFinal.lean ====
/-
  The rotary projection of the sample tokens: its three result arrays are the reference's answers.
-/
module

public import proofs.«01_k».proof.Defs
public import proofs.«01_k».proof.Proof.Gen.QkvSIdeal.Frame
public import proofs.«01_k».proof.Proof.Gen.QkvSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.QkvSIdeal.Steps

open Cert.QkvSIdeal Cert.QkvSIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The lane mask marks the first half of each head. -/
theorem mask_at (l : Fin 128) : (k0_pay4 (ix2 0 l) : BitVec 1) = if (l : ℕ) % 64 < 32 then 1#1 else 0#1 := by
  revert l; decide +kernel

/-- One entry of a rotated row: the projection times the cosine, plus its partner in the head times the signed sine. -/
def rotated (T : FVec Ideal S32x3072 .f32) (C S : FVec Ideal S32x128 .f32) (i : Fin 32) (off : ℕ) (h : off ≤ 2048) (j : Fin 1024) : EReal :=
  T (ix2 i ⟨off + j, by omega⟩) * C (ix2 i ⟨j % 128, by omega⟩)
    + (if (j : ℕ) % 64 < 32 then T (ix2 i ⟨off + (j / 128 * 128 + (j % 128 + 32) % 128), by omega⟩)
        else T (ix2 i ⟨off + (j / 128 * 128 + (j % 128 + 96) % 128), by omega⟩)) * S (ix2 i ⟨j % 128, by omega⟩)

/-- The query strips, one formula. -/
theorem q_at (x0 : Vec Ideal S32x1024 .f32) (x1 : Vec Ideal S1x1024 .f32) (x2 : Vec Ideal S1024x3072 .f32) (x3 : Vec Ideal S1x128 .f32)
    (y : S32x1024.Idx) : out0_4 (F := Ideal) x0 x1 x2 x3 y
      = rotated (k0_pay1 (F := Ideal) (View.ld x0 r0_0) (View.ld x1 r0_1) (View.ld x2 r0_2)) (k0_pay3 (F := Ideal) (View.ld x3 r0_3))
          (k0_pay5 (F := Ideal) (View.ld x3 r0_3)) (y 0) 0 (by omega) (y 1) := by
  unfold_out out0_4
  generalize k0_pay3 (F := Ideal) (View.ld x3 r0_3) = C
  generalize k0_pay5 (F := Ideal) (View.ld x3 r0_3) = S
  unfold k0_pay7
  generalize k0_pay1 (F := Ideal) (View.ld x0 r0_0) (View.ld x1 r0_1) (View.ld x2 r0_2) = T
  unfold rotated
  have hM := mask_at
  generalize k0_pay4 = M at hM ⊢
  canon_tiles x h
  all_goals
    pointwise [k0_pay8, k0_pay10, k0_pay12, k0_pay13, k0_pay15, k0_pay17, k0_pay18, k0_pay20, k0_pay22, k0_pay23, k0_pay25]
    have hm := hM (x 1)
    by_cases hl : (x 1 : ℕ) % 64 < 32
    · rw [if_pos hl] at hm
      rw [if_pos (show (y 1 : ℕ) % 64 < 32 by omega), hm, Scalar.select, if_pos (by decide)]
      refine congrArg₂ (· + ·) (congrArg₂ (· * ·) ?_ ?_) (congrArg₂ (· * ·) ?_ ?_) <;> blk_ext
    · rw [if_neg hl] at hm
      rw [if_neg (show ¬ (y 1 : ℕ) % 64 < 32 by omega), hm, Scalar.select, if_neg (by decide)]
      refine congrArg₂ (· + ·) (congrArg₂ (· * ·) ?_ ?_) (congrArg₂ (· * ·) ?_ ?_) <;> blk_ext

/-- The key strips, one formula. -/
theorem k_at (x0 : Vec Ideal S32x1024 .f32) (x1 : Vec Ideal S1x1024 .f32) (x2 : Vec Ideal S1024x3072 .f32) (x3 : Vec Ideal S1x128 .f32)
    (y : S32x1024.Idx) : out0_5 (F := Ideal) x0 x1 x2 x3 y
      = rotated (k0_pay1 (F := Ideal) (View.ld x0 r0_0) (View.ld x1 r0_1) (View.ld x2 r0_2)) (k0_pay3 (F := Ideal) (View.ld x3 r0_3))
          (k0_pay5 (F := Ideal) (View.ld x3 r0_3)) (y 0) 1024 (by omega) (y 1) := by
  unfold_out out0_5
  generalize k0_pay3 (F := Ideal) (View.ld x3 r0_3) = C
  generalize k0_pay5 (F := Ideal) (View.ld x3 r0_3) = S
  generalize k0_pay1 (F := Ideal) (View.ld x0 r0_0) (View.ld x1 r0_1) (View.ld x2 r0_2) = T
  unfold rotated
  have hM := mask_at
  generalize k0_pay4 = M at hM ⊢
  canon_tiles x h
  all_goals
    pointwise [k0_pay9, k0_pay11, k0_pay14, k0_pay16, k0_pay19, k0_pay21, k0_pay24, k0_pay26]
    have hm := hM (x 1)
    by_cases hl : (x 1 : ℕ) % 64 < 32
    · rw [if_pos hl] at hm
      rw [if_pos (show (y 1 : ℕ) % 64 < 32 by omega), hm, Scalar.select, if_pos (by decide)]
      refine congrArg₂ (· + ·) (congrArg₂ (· * ·) ?_ ?_) (congrArg₂ (· * ·) ?_ ?_) <;> blk_ext
    · rw [if_neg hl] at hm
      rw [if_neg (show ¬ (y 1 : ℕ) % 64 < 32 by omega), hm, Scalar.select, if_neg (by decide)]
      refine congrArg₂ (· + ·) (congrArg₂ (· * ·) ?_ ?_) (congrArg₂ (· * ·) ?_ ?_) <;> blk_ext

section
open Cert.QkvSRefIdeal.Read

/-- The projection is the reference's. -/
theorem proj (c : Dev nD) (t : Fin cfg0.N) (i : Fin 32) (n : Fin 3072) :
    k0_pay1 (F := Ideal) (View.ld (iblk m c 0 t) r0_0) (View.ld (iblk m c 1 t) r0_1) (View.ld (iblk m c 2 t) r0_2) (ix2 i n)
      = val_main_v14 (F := Ideal) (m ((c : Thread nD τ).loc main_arg0)) (m ((c : Thread nD τ).loc main_arg1))
          (m ((c : Thread nD τ).loc main_arg2)) (ix2 i n) := by
  pointwise [k0_pay1, val_main_cst, val_main_cst_0, val_main_cst_1, val_main_v1, val_main_v2, val_main_v3, val_main_v4, val_main_v5, val_main_v6, val_main_v7, val_main_v8, val_main_v9, val_main_v10, val_main_v11, val_main_v12, val_main_v13, val_main_v14]
  blk_point [iblk, V, idx t]

/-- The staged table of frequencies, lane by lane. -/
theorem freq (c : Dev nD) (t : Fin cfg0.N) (l : Fin 128) :
    iblk m c 3 t (ix2 0 l) = val_main_v23 (F := Ideal) (ix1 ⟨(l : ℕ) % 32, by omega⟩) := by
  blk_simp [iblk, idx t]
  entry_read
  pointwise [val_main_v18, val_main_v19, val_main_v20, val_main_v21, val_main_v22, val_main_v23, val_main_cst_2, val_main_cst_3]
  blk_simp [idx t]

/-- A choice by a known bit. -/
theorem choose_one (a b : EReal) : Scalar.select 1#1 a b = a := if_pos (by decide)

/-- The same for the other bit. -/
theorem choose_zero (a b : EReal) : Scalar.select 0#1 a b = b := if_neg (by decide)

set_option maxHeartbeats 4000000 in
/-- A query entry is the reference's. -/
theorem core_q (c : Dev nD) (t : Fin cfg0.N) (i : Fin 32) (jj : Fin 1024) :
    rotated (k0_pay1 (F := Ideal) (View.ld (iblk m c 0 t) r0_0) (View.ld (iblk m c 1 t) r0_1) (View.ld (iblk m c 2 t) r0_2))
        (k0_pay3 (F := Ideal) (View.ld (iblk m c 3 t) r0_3)) (k0_pay5 (F := Ideal) (View.ld (iblk m c 3 t) r0_3)) i 0 (by omega) jj
      = val_main_v47 (F := Ideal) (m ((c : Thread nD τ).loc main_arg0)) (m ((c : Thread nD τ).loc main_arg1))
          (m ((c : Thread nD τ).loc main_arg2)) (ix2 i jj) := by
  unfold rotated
  have hm := mask_at ⟨(jj : ℕ) % 128, by omega⟩
  have hf := freq m c t ⟨(jj : ℕ) % 128, by omega⟩
  simp only [proj]
  by_cases hl : (jj : ℕ) % 64 < 32
  · rw [if_pos hl]
    rw [if_pos (show (jj : ℕ) % 128 % 64 < 32 by omega)] at hm
    pointwise [val_main_c, k0_pay2, k0_pay3, k0_pay5, val_main_v0, val_main_v15, val_main_v16, val_main_v17, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47]
    rw [dif_pos hl]
    generalize iblk m c 3 t (ix2 0 ⟨(jj : ℕ) % 128, _⟩) = f at hf ⊢
    generalize k0_pay4 (ix2 0 ⟨(jj : ℕ) % 128, _⟩) = b at hm ⊢
    subst hm hf
    show _ * _ + _ * (0 - Ideal.sin _) = _ - _
    rw [zero_sub, mul_neg, ← sub_eq_add_neg]
    refine congrArg₂ (· - ·) (congrArg₂ (· * ·) ?_ ?_) (congrArg₂ (· * ·) ?_ ?_) <;> blk_point []
  · rw [if_neg hl]
    rw [if_neg (show ¬ (jj : ℕ) % 128 % 64 < 32 by omega)] at hm
    pointwise [val_main_c, k0_pay2, k0_pay3, k0_pay5, val_main_v0, val_main_v15, val_main_v16, val_main_v17, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47]
    rw [dif_neg hl]
    generalize iblk m c 3 t (ix2 0 ⟨(jj : ℕ) % 128, _⟩) = f at hf ⊢
    generalize k0_pay4 (ix2 0 ⟨(jj : ℕ) % 128, _⟩) = b at hm ⊢
    subst hm hf
    show _ * _ + _ * Ideal.sin _ = _ + _
    refine congrArg₂ (· + ·) (congrArg₂ (· * ·) ?_ ?_) (congrArg₂ (· * ·) ?_ ?_) <;> blk_point []

set_option maxHeartbeats 4000000 in
/-- A key entry is the reference's. -/
theorem core_k (c : Dev nD) (t : Fin cfg0.N) (i : Fin 32) (jj : Fin 1024) :
    rotated (k0_pay1 (F := Ideal) (View.ld (iblk m c 0 t) r0_0) (View.ld (iblk m c 1 t) r0_1) (View.ld (iblk m c 2 t) r0_2))
        (k0_pay3 (F := Ideal) (View.ld (iblk m c 3 t) r0_3)) (k0_pay5 (F := Ideal) (View.ld (iblk m c 3 t) r0_3)) i 1024 (by omega) jj
      = val_main_v63 (F := Ideal) (m ((c : Thread nD τ).loc main_arg0)) (m ((c : Thread nD τ).loc main_arg1))
          (m ((c : Thread nD τ).loc main_arg2)) (ix2 i jj) := by
  unfold rotated
  have hm := mask_at ⟨(jj : ℕ) % 128, by omega⟩
  have hf := freq m c t ⟨(jj : ℕ) % 128, by omega⟩
  simp only [proj]
  by_cases hl : (jj : ℕ) % 64 < 32
  · rw [if_pos hl]
    rw [if_pos (show (jj : ℕ) % 128 % 64 < 32 by omega)] at hm
    pointwise [val_main_c, k0_pay2, k0_pay3, k0_pay5, val_main_v0, val_main_v15, val_main_v16, val_main_v17, val_main_v24, val_main_v25, val_main_v26, val_main_v27, val_main_v28, val_main_v29, val_main_v30, val_main_v31, val_main_v48, val_main_v49, val_main_v50, val_main_v51, val_main_v52, val_main_v53, val_main_v54, val_main_v55, val_main_v56, val_main_v57, val_main_v58, val_main_v59, val_main_v60, val_main_v61, val_main_v62, val_main_v63]
    rw [dif_pos hl]
    generalize iblk m c 3 t (ix2 0 ⟨(jj : ℕ) % 128, _⟩) = f at hf ⊢
    generalize k0_pay4 (ix2 0 ⟨(jj : ℕ) % 128, _⟩) = b at hm ⊢
    subst hm hf
    show _ * _ + _ * (0 - Ideal.sin _) = _ - _
    rw [zero_sub, mul_neg, ← sub_eq_add_neg]
    refine congrArg₂ (· - ·) (congrArg₂ (· * ·) ?_ ?_) (congrArg₂ (· * ·) ?_ ?_) <;> blk_point []
  · rw [if_neg hl]
    rw [if_neg (show ¬ (jj : ℕ) % 128 % 64 < 32 by omega)] at hm
    pointwise [val_main_c, k0_pay2, k0_pay3, k0_pay5, val_main_v0, val_main_v15, val_main_v16, val_main_v17, val_main_v24, val_main_v25, val_main_v26, val_main_v27, val_main_v28, val_main_v29, val_main_v30, val_main_v31, val_main_v48, val_main_v49, val_main_v50, val_main_v51, val_main_v52, val_main_v53, val_main_v54, val_main_v55, val_main_v56, val_main_v57, val_main_v58, val_main_v59, val_main_v60, val_main_v61, val_main_v62, val_main_v63]
    rw [dif_neg hl]
    generalize iblk m c 3 t (ix2 0 ⟨(jj : ℕ) % 128, _⟩) = f at hf ⊢
    generalize k0_pay4 (ix2 0 ⟨(jj : ℕ) % 128, _⟩) = b at hm ⊢
    subst hm hf
    show _ * _ + _ * Ideal.sin _ = _ + _
    refine congrArg₂ (· + ·) (congrArg₂ (· * ·) ?_ ?_) (congrArg₂ (· * ·) ?_ ?_) <;> blk_point []

set_option maxHeartbeats 4000000 in
/-- The query array after the run. -/
theorem final4 (c : Dev nD) : (dats m 0 c).arrAt 4 (cfgs 0).N
    = val_main_v47 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (q_at _ _ _ _ y).trans ((core_q m c t (y 0) (y 1)).trans (congrArg _ (funext fun a => ?_)))
  match a with
  | 0 => exact Fin.ext (by blk_simp [idx t])
  | 1 => exact Fin.ext (by blk_simp [idx t])

set_option maxHeartbeats 4000000 in
/-- The key array after the run. -/
theorem final5 (c : Dev nD) : (dats m 0 c).arrAt 5 (cfgs 0).N
    = val_main_v63 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (k_at _ _ _ _ y).trans ((core_k m c t (y 0) (y 1)).trans (congrArg _ (funext fun a => ?_)))
  match a with
  | 0 => exact Fin.ext (by blk_simp [idx t])
  | 1 => exact Fin.ext (by blk_simp [idx t])

/-- The value strip is the projection's last third. -/
theorem v_at (x0 : Vec Ideal S32x1024 .f32) (x1 : Vec Ideal S1x1024 .f32) (x2 : Vec Ideal S1024x3072 .f32) (x3 : Vec Ideal S1x128 .f32)
    (y : S32x1024.Idx) : out0_6 (F := Ideal) x0 x1 x2 x3 y
      = k0_pay1 (F := Ideal) (View.ld x0 r0_0) (View.ld x1 r0_1) (View.ld x2 r0_2) (ix2 (y 0) ⟨2048 + (y 1 : ℕ), by have : (y 1 : ℕ) < 1024 := (y 1).isLt; omega⟩) := by
  unfold out0_6
  generalize hp : k0_pay6 (F := Ideal) (View.ld x0 r0_0) (View.ld x1 r0_1) (View.ld x2 r0_2) = p
  canon_tiles x h
  subst hp
  pointwise [k0_pay6]
  generalize k0_pay1 (F := Ideal) (View.ld x0 r0_0) (View.ld x1 r0_1) (View.ld x2 r0_2) = T
  blk_ext

/-- A value entry is the reference's. -/
theorem core_v (c : Dev nD) (t : Fin cfg0.N) (i : Fin 32) (j : Fin 1024) :
    k0_pay1 (F := Ideal) (View.ld (iblk m c 0 t) r0_0) (View.ld (iblk m c 1 t) r0_1) (View.ld (iblk m c 2 t) r0_2) (ix2 i ⟨2048 + (j : ℕ), by omega⟩)
      = val_main_v66 (F := Ideal) (m ((c : Thread nD τ).loc main_arg0)) (m ((c : Thread nD τ).loc main_arg1)) (m ((c : Thread nD τ).loc main_arg2)) (ix2 i j) := by
  rw [proj]
  generalize m ((c : Thread nD τ).loc main_arg0) = x0
  generalize m ((c : Thread nD τ).loc main_arg1) = x1
  generalize m ((c : Thread nD τ).loc main_arg2) = x2
  rw [val_main_v66_apply, val_main_v65_apply, val_main_v64_apply, val_main_v15_apply]
  generalize val_main_v14 (F := Ideal) x0 x1 x2 = T
  blk_ext

/-- The value array after the run. -/
theorem final6 (c : Dev nD) : (dats m 0 c).arrAt 6 (cfgs 0).N
    = val_main_v66 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine (v_at _ _ _ _ y).trans ((core_v m c t (y 0) (y 1)).trans (congrArg _ (funext fun a => ?_)))
  match a with
  | 0 => exact Fin.ext (by blk_simp [idx t])
  | 1 => exact Fin.ext (by blk_simp [idx t])

end

end Cert.QkvSIdeal.Steps

end

end
-- ==== Proof.MixSStates.lean ====
/-
  The short convolution and pool of the sample tokens: the three result arrays are the reference's answers.
-/
module

public import proofs.«01_k».proof.Defs
public import proofs.«01_k».proof.Proof.Gen.MixSIdeal.Frame
public import proofs.«01_k».proof.Proof.Gen.MixSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixSIdeal.Steps

open Cert.MixSIdeal Cert.MixSIdeal.Gen Cert.MixSRefIdeal.Read Idealize.ShloMosaic Idealize.ShloMosaic.TcCoe Idealize.SL.Sem

variable (m : (ℓ : Loc nD τ sig) → Buf (Elt Ideal) ℓ)

/-- Which block each window holds at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, _)

/-- The projection is the reference's. -/
theorem proj (c : Dev nD) (t : Fin cfg0.N) (i : Fin 32) (n : Fin 2048) :
    k0_pay1 (F := Ideal) (iblk m c 0 t) (iblk m c 3 t) (iblk m c 4 t) (ix2 i n)
      = val_main_v13 (F := Ideal) (m ((c : Thread nD τ).loc main_arg0)) (m ((c : Thread nD τ).loc main_arg3))
          (m ((c : Thread nD τ).loc main_arg4)) (ix2 i n) := by
  pointwise [k0_pay1, val_main_v0, val_main_cst, val_main_cst_0, val_main_cst_1, val_main_v1, val_main_v2, val_main_v3, val_main_v4, val_main_v5, val_main_v6, val_main_v7, val_main_v8, val_main_v9, val_main_v10, val_main_v11, val_main_v12, val_main_v13]
  blk_point [iblk, V, idx t]

/-- The staged pool rows are the previous rows, row after row. -/
theorem prev (c : Dev nD) (t : Fin cfg0.N) (i : Fin 32) (r : Fin 15) (j : Fin 512) :
    iblk m c 2 t (ix2 i ⟨512 * (r : ℕ) + (j : ℕ), by omega⟩) = m ((c : Thread nD τ).loc main_arg2) (ix3 i r j) := by
  blk_simp [iblk, idx t]
  entry_read
  pointwise []
  blk_point [idx t]

/-- The staged convolution rows are the previous rows, row after row. -/
theorem prev_conv (c : Dev nD) (t : Fin cfg0.N) (i : Fin 32) (r : Fin 2) (j : Fin 512) :
    iblk m c 1 t (ix2 i ⟨512 * (r : ℕ) + (j : ℕ), by omega⟩) = m ((c : Thread nD τ).loc main_arg1) (ix3 i r j) := by
  blk_simp [iblk, idx t]
  entry_read
  pointwise []
  blk_point [idx t]

/-- The convolution rows carried on. -/
theorem conv_at (c : Dev nD) (t : Fin cfg0.N) (y : S32x1024.Idx) : (outsAt0 (F := Ideal) m c t).2.1 y
    = val_main_v57 (F := Ideal) (m ((c : Thread nD τ).loc main_arg0)) (m ((c : Thread nD τ).loc main_arg1)) (m ((c : Thread nD τ).loc main_arg3)) (m ((c : Thread nD τ).loc main_arg4)) (ix2 (y 0) (y 1)) := by
  unfold outsAt0
  frame_out
  simp only [read_unread_whole]
  canon_tiles x h
  · pointwise [k0_pay4, val_main_v14, val_main_v16, val_main_v18, val_main_v19, val_main_v20, val_main_v56, val_main_v57]
    rw [dif_neg (show ¬ 1 + (y 1 : ℕ) / 512 < 2 by omega)]
    refine congrArg₂ (· * ·) ((proj m c t _ _).trans ?_) ((proj m c t _ _).trans ?_) <;> blk_point []
  · have hp := prev_conv m c t (x 0) 1 (x 1)
    pointwise [k0_pay19, val_main_v14, val_main_v16, val_main_v18, val_main_v19, val_main_v20, val_main_v56, val_main_v57]
    rw [dif_pos (show 1 + (y 1 : ℕ) / 512 < 2 by omega)]
    refine Eq.trans ?_ (hp.trans ?_) <;> blk_point []

/-- The pool rows carried on. -/
theorem pool_at (c : Dev nD) (t : Fin cfg0.N) (y : S32x7680.Idx) : (outsAt0 (F := Ideal) m c t).2.2 y
    = val_main_v59 (F := Ideal) (m ((c : Thread nD τ).loc main_arg0)) (m ((c : Thread nD τ).loc main_arg2)) (m ((c : Thread nD τ).loc main_arg3)) (m ((c : Thread nD τ).loc main_arg4)) (ix2 (y 0) (y 1)) := by
  unfold outsAt0
  frame_out
  simp only [read_unread_whole]
  canon_tiles x h using (View.cover_of_tiledBy _ ![32, 512] (by sl_kernel_rfl) y)
  · pointwise [k0_pay3, val_main_v17, val_main_v21, val_main_v22, val_main_v58, val_main_v59]
    rw [dif_neg (show ¬ 1 + (y 1 : ℕ) / 512 < 15 by omega)]
    refine (proj m c t _ _).trans ?_
    blk_point []
  · have hp := prev m c t (x 0) ⟨1 + (x 1 : ℕ) / 512, by omega⟩ ⟨(x 1 : ℕ) % 512, by omega⟩
    pointwise [k0_pay20, val_main_v17, val_main_v21, val_main_v22, val_main_v58, val_main_v59]
    rw [dif_pos (show 1 + (y 1 : ℕ) / 512 < 15 by omega)]
    refine Eq.trans ?_ (hp.trans ?_) <;> blk_point []

/-- The convolution rows after the run. -/
theorem final10 (c : Dev nD) : (dats m 0 c).arrAt 10 (cfgs 0).N = val_main_v57 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t hf y => ?_
  blk_simp
  rw [after0_10]
  refine (conv_at m c t y).trans (congrArg _ (funext fun a => ?_))
  match a with
  | 0 => exact Fin.ext (by blk_simp [idx t])
  | 1 => exact Fin.ext (by blk_simp [idx t])

/-- The pool rows after the run. -/
theorem final11 (c : Dev nD) : (dats m 0 c).arrAt 11 (cfgs 0).N = val_main_v59 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11]
  refine (pool_at m c t y).trans (congrArg _ (funext fun a => ?_))
  match a with
  | 0 => exact Fin.ext (by blk_simp [idx t])
  | 1 => exact Fin.ext (by blk_simp [idx t])

end Cert.MixSIdeal.Steps

end

end
-- ==== Proof.MixSFinal.lean ====
/-
  The short convolution and pool of the sample tokens: the mixed rows are the reference's.
-/
module

public import proofs.«01_k».proof.Defs
public import proofs.«01_k».proof.Proof.MixSStates
public import proofs.«01_k».proof.Proof.Gen.MixSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixSIdeal.Steps

open Cert.MixSIdeal Cert.MixSIdeal.Gen Cert.MixSRefIdeal.Read Idealize.ShloMosaic Idealize.ShloMosaic.TcCoe Idealize.SL.Sem

variable (m : (ℓ : Loc nD τ sig) → Buf (Elt Ideal) ℓ)

/-- The convolution's window begins with the two previous rows. -/
theorem window_prev (c : Dev nD) (t : Fin cfg0.N) (i : Fin 32) (r : ℕ) (hr : r < 2) (n : ℕ) (hn : n < 1024) (j : Fin 512) (e : n = 512 * r + (j : ℕ)) :
    iblk m c 1 t (ix2 i ⟨n, hn⟩) = val_main_v20 (F := Ideal) (m ((c : Thread nD τ).loc main_arg0)) (m ((c : Thread nD τ).loc main_arg1)) (m ((c : Thread nD τ).loc main_arg3)) (m ((c : Thread nD τ).loc main_arg4)) (ix3 i ⟨r, by omega⟩ j) := by
  subst e
  refine (prev_conv m c t i ⟨r, hr⟩ j).trans ?_
  pointwise [val_main_v20]
  rw [dif_pos hr]

/-- The convolution's window ends with this row. -/
theorem window_last (c : Dev nD) (t : Fin cfg0.N) (i : Fin 32) (r : ℕ) (hr : r < 3) (h2 : r = 2) (j : Fin 512) :
    k0_pay1 (F := Ideal) (iblk m c 0 t) (iblk m c 3 t) (iblk m c 4 t) (ix2 i ⟨1024 + (j : ℕ), by omega⟩) * k0_pay1 (F := Ideal) (iblk m c 0 t) (iblk m c 3 t) (iblk m c 4 t) (ix2 i ⟨(j : ℕ), by omega⟩)
      = val_main_v20 (F := Ideal) (m ((c : Thread nD τ).loc main_arg0)) (m ((c : Thread nD τ).loc main_arg1)) (m ((c : Thread nD τ).loc main_arg3)) (m ((c : Thread nD τ).loc main_arg4)) (ix3 i ⟨r, hr⟩ j) := by
  pointwise [val_main_v14, val_main_v16, val_main_v18, val_main_v19, val_main_v20]
  rw [dif_neg (by omega)]
  refine congrArg₂ (· * ·) ((proj m c t _ _).trans ?_) ((proj m c t _ _).trans ?_)
  all_goals blk_point []

/-- The sum over the window, term by term. -/
theorem three (f : Fin 3 → EReal) : (∑ r : Fin 3, f r) = f ⟨0, by omega⟩ + f ⟨1, by omega⟩ + f ⟨2, by omega⟩ :=
  Fin.sum_univ_three f

/-- The gated convolution is the reference's. -/
theorem gated (c : Dev nD) (t : Fin cfg0.N) (i : Fin 32) (j : Fin 512) :
    k0_pay14 (F := Ideal) (k0_pay2 (iblk m c 0 t) (iblk m c 3 t) (iblk m c 4 t)) (k0_pay5 (iblk m c 0 t) (iblk m c 3 t) (iblk m c 4 t) (iblk m c 5 t)
      (View.ld (iblk m c 1 t) (Rect.unit ![0, 0] ![32, 512] inb_S32x1024_S32x512_0_0))
      (View.ld (iblk m c 1 t) (Rect.unit ![0, 512] ![32, 512] inb_S32x1024_S32x512_0_512))) (ix2 i j)
    = val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 i j) := by
  have h0 := window_prev m c t i 0 (by omega) (j : ℕ) (by omega) j (by omega)
  have h1 := window_prev m c t i 1 (by omega) (512 + (j : ℕ)) (by omega) j (by omega)
  have h2 := window_last m c t i 2 (by omega) rfl j
  pointwise [k0_pay14, k0_pay2, k0_pay4, k0_pay5, val_main_v15, val_main_v48, val_main_v49, val_main_v50, val_main_cst_10, val_main_v51, val_main_v52]
  generalize val_main_v20 (F := Ideal) (m ((c : Thread nD τ).loc main_arg0)) (m ((c : Thread nD τ).loc main_arg1)) (m ((c : Thread nD τ).loc main_arg3)) (m ((c : Thread nD τ).loc main_arg4)) = u at h0 h1 h2 ⊢
  rw [three, h0, h1, h2]
  refine congrArg₂ (· * ·) ((proj m c t _ _).trans ?_) (congrArg₂ (· + ·) (congrArg₂ (· + ·) (congrArg₂ (· * ·) ?_ rfl) (congrArg₂ (· * ·) ?_ rfl)) (congrArg₂ (· * ·) ?_ rfl))
  · blk_point []
  all_goals blk_point [iblk, V, idx t]

/-- One row of the pool's history: the previous rows, then this one. -/
def hist (c : Dev nD) (i : Fin 32) (j : Fin 512) (r : ℕ) : EReal :=
  if h : r < 16 then val_main_v22 (F := Ideal) (m ((c : Thread nD τ).loc main_arg0)) (m ((c : Thread nD τ).loc main_arg2)) (m ((c : Thread nD τ).loc main_arg3)) (m ((c : Thread nD τ).loc main_arg4)) (ix3 i ⟨r, h⟩ j) else 0

/-- The staged previous rows are the history's. -/
theorem hist_prev (c : Dev nD) (t : Fin cfg0.N) (i : Fin 32) (j : Fin 512) (r n : ℕ) (hr : r < 15) (hn : n < 7680) (e : n = 512 * r + (j : ℕ)) :
    iblk m c 2 t (ix2 i ⟨n, hn⟩) = hist m c i j r := by
  subst e
  refine (prev m c t i ⟨r, hr⟩ j).trans ?_
  unfold hist
  rw [dif_pos (by omega)]
  pointwise [val_main_v22]
  rw [dif_pos hr]

/-- The present row is the history's last. -/
theorem hist_last (c : Dev nD) (t : Fin cfg0.N) (i : Fin 32) (j : Fin 512) :
    k0_pay3 (F := Ideal) (iblk m c 0 t) (iblk m c 3 t) (iblk m c 4 t) (ix2 i j) = hist m c i j 15 := by
  unfold hist
  rw [dif_pos (by omega)]
  pointwise [k0_pay3, val_main_v17, val_main_v21, val_main_v22]
  refine (proj m c t _ _).trans ?_
  blk_point []

set_option maxHeartbeats 1000000 in
/-- The mean over the last 2 rows is the reference's. -/
theorem mean0 (c : Dev nD) (t : Fin cfg0.N) (i : Fin 32) (x : Fin 128) :
    k0_pay7 (F := Ideal) (k0_pay6 (iblk m c 0 t) (iblk m c 3 t) (iblk m c 4 t) (View.ld (iblk m c 2 t) (Rect.unit ![0, 7168] ![32, 128] inb_S32x7680_S32x128_0_7168))) (ix2 i x)
      = val_main_v26 (F := Ideal) (m ((c : Thread nD τ).loc main_arg0)) (m ((c : Thread nD τ).loc main_arg2)) (m ((c : Thread nD τ).loc main_arg3)) (m ((c : Thread nD τ).loc main_arg4)) (ix2 i x) := by
  have hs : (∑ r : Fin 2, val_main_v22 (F := Ideal) (m ((c : Thread nD τ).loc main_arg0)) (m ((c : Thread nD τ).loc main_arg2)) (m ((c : Thread nD τ).loc main_arg3)) (m ((c : Thread nD τ).loc main_arg4)) (ix3 i ⟨14 + (r : ℕ), by omega⟩ ⟨(x : ℕ), by omega⟩))
      = ∑ r : Fin 2, hist m c i ⟨(x : ℕ), by omega⟩ (14 + (r : ℕ)) :=
    Finset.sum_congr rfl fun r _ => by unfold hist; rw [dif_pos (by omega)]
  have hl := hist_last m c t i ⟨(x : ℕ), by omega⟩
  have hp := hist_prev m c t i ⟨(x : ℕ), by omega⟩
  unfold k0_pay7
  pointwise [k0_pay7, k0_pay6, val_main_v23, val_main_v24, val_main_v25, val_main_v26, val_main_cst_2, val_main_cst_3]
  refine congrArg₂ Ideal.div ?_ rfl
  refine Eq.trans ?_ hs.symm
  generalize hist m c i ⟨(x : ℕ), by omega⟩ = f at hl hp ⊢
  rw [Fin.sum_univ_eq_sum_range (fun r => f (14 + r)) 2]
  simp only [Finset.sum_range_succ, Finset.sum_range_zero, zero_add]
  show _ = f 14 + f 15
  rw [show f 14 + f 15 = f 15 + f 14 by ac_rfl]
  exact congrArg₂ (· + ·) (hl) (hp 14 _ (by omega) _ (by show 7168 + (x : ℕ) = 512 * 14 + ((x : ℕ)); omega))

set_option maxHeartbeats 1000000 in
/-- The mean over the last 4 rows is the reference's. -/
theorem mean1 (c : Dev nD) (t : Fin cfg0.N) (i : Fin 32) (x : Fin 128) :
    k0_pay8 (F := Ideal) (k0_pay3 (iblk m c 0 t) (iblk m c 3 t) (iblk m c 4 t)) (View.ld (iblk m c 2 t) (Rect.unit ![0, 7296] ![32, 128] inb_S32x7680_S32x128_0_7296)) (View.ld (iblk m c 2 t) (Rect.unit ![0, 6784] ![32, 128] inb_S32x7680_S32x128_0_6784)) (View.ld (iblk m c 2 t) (Rect.unit ![0, 6272] ![32, 128] inb_S32x7680_S32x128_0_6272)) (ix2 i x)
      = val_main_v30 (F := Ideal) (m ((c : Thread nD τ).loc main_arg0)) (m ((c : Thread nD τ).loc main_arg2)) (m ((c : Thread nD τ).loc main_arg3)) (m ((c : Thread nD τ).loc main_arg4)) (ix2 i x) := by
  have hs : (∑ r : Fin 4, val_main_v22 (F := Ideal) (m ((c : Thread nD τ).loc main_arg0)) (m ((c : Thread nD τ).loc main_arg2)) (m ((c : Thread nD τ).loc main_arg3)) (m ((c : Thread nD τ).loc main_arg4)) (ix3 i ⟨12 + (r : ℕ), by omega⟩ ⟨128 + (x : ℕ), by omega⟩))
      = ∑ r : Fin 4, hist m c i ⟨128 + (x : ℕ), by omega⟩ (12 + (r : ℕ)) :=
    Finset.sum_congr rfl fun r _ => by unfold hist; rw [dif_pos (by omega)]
  have hl := hist_last m c t i ⟨128 + (x : ℕ), by omega⟩
  have hp := hist_prev m c t i ⟨128 + (x : ℕ), by omega⟩
  generalize k0_pay3 (F := Ideal) (iblk m c 0 t) (iblk m c 3 t) (iblk m c 4 t) = b at hl ⊢
  pointwise [k0_pay8, val_main_v27, val_main_v28, val_main_v29, val_main_v30, val_main_cst_4, val_main_cst_5]
  refine congrArg₂ Ideal.div ?_ rfl
  refine Eq.trans ?_ hs.symm
  generalize hist m c i ⟨128 + (x : ℕ), by omega⟩ = f at hl hp ⊢
  rw [Fin.sum_univ_eq_sum_range (fun r => f (12 + r)) 4]
  simp only [Finset.sum_range_succ, Finset.sum_range_zero, zero_add]
  show _ = f 12 + f 13 + f 14 + f 15
  rw [show f 12 + f 13 + f 14 + f 15 = f 15 + f 14 + f 13 + f 12 by ac_rfl]
  exact congrArg₂ (· + ·) (congrArg₂ (· + ·) (congrArg₂ (· + ·) (hl) (hp 14 _ (by omega) _ (by show 7296 + (x : ℕ) = 512 * 14 + (128 + (x : ℕ)); omega))) (hp 13 _ (by omega) _ (by show 6784 + (x : ℕ) = 512 * 13 + (128 + (x : ℕ)); omega))) (hp 12 _ (by omega) _ (by show 6272 + (x : ℕ) = 512 * 12 + (128 + (x : ℕ)); omega))

set_option maxHeartbeats 1000000 in
/-- The mean over the last 8 rows is the reference's. -/
theorem mean2 (c : Dev nD) (t : Fin cfg0.N) (i : Fin 32) (x : Fin 128) :
    k0_pay11 (F := Ideal) (k0_pay9 (k0_pay3 (iblk m c 0 t) (iblk m c 3 t) (iblk m c 4 t)) (View.ld (iblk m c 2 t) (Rect.unit ![0, 7424] ![32, 128] inb_S32x7680_S32x128_0_7424)) (View.ld (iblk m c 2 t) (Rect.unit ![0, 6912] ![32, 128] inb_S32x7680_S32x128_0_6912)) (View.ld (iblk m c 2 t) (Rect.unit ![0, 6400] ![32, 128] inb_S32x7680_S32x128_0_6400)) (View.ld (iblk m c 2 t) (Rect.unit ![0, 5888] ![32, 128] inb_S32x7680_S32x128_0_5888)) (View.ld (iblk m c 2 t) (Rect.unit ![0, 5376] ![32, 128] inb_S32x7680_S32x128_0_5376)) (View.ld (iblk m c 2 t) (Rect.unit ![0, 4864] ![32, 128] inb_S32x7680_S32x128_0_4864)) (View.ld (iblk m c 2 t) (Rect.unit ![0, 4352] ![32, 128] inb_S32x7680_S32x128_0_4352))) k0_pay10 (ix2 i x)
      = val_main_v34 (F := Ideal) (m ((c : Thread nD τ).loc main_arg0)) (m ((c : Thread nD τ).loc main_arg2)) (m ((c : Thread nD τ).loc main_arg3)) (m ((c : Thread nD τ).loc main_arg4)) (ix2 i x) := by
  have hs : (∑ r : Fin 8, val_main_v22 (F := Ideal) (m ((c : Thread nD τ).loc main_arg0)) (m ((c : Thread nD τ).loc main_arg2)) (m ((c : Thread nD τ).loc main_arg3)) (m ((c : Thread nD τ).loc main_arg4)) (ix3 i ⟨8 + (r : ℕ), by omega⟩ ⟨256 + (x : ℕ), by omega⟩))
      = ∑ r : Fin 8, hist m c i ⟨256 + (x : ℕ), by omega⟩ (8 + (r : ℕ)) :=
    Finset.sum_congr rfl fun r _ => by unfold hist; rw [dif_pos (by omega)]
  have hl := hist_last m c t i ⟨256 + (x : ℕ), by omega⟩
  have hp := hist_prev m c t i ⟨256 + (x : ℕ), by omega⟩
  generalize k0_pay3 (F := Ideal) (iblk m c 0 t) (iblk m c 3 t) (iblk m c 4 t) = b at hl ⊢
  pointwise [k0_pay11, k0_pay9, k0_pay10, val_main_v31, val_main_v32, val_main_v33, val_main_v34, val_main_cst_6, val_main_cst_7]
  refine congrArg₂ Ideal.div ?_ rfl
  refine Eq.trans ?_ hs.symm
  generalize hist m c i ⟨256 + (x : ℕ), by omega⟩ = f at hl hp ⊢
  rw [Fin.sum_univ_eq_sum_range (fun r => f (8 + r)) 8]
  simp only [Finset.sum_range_succ, Finset.sum_range_zero, zero_add]
  show _ = f 8 + f 9 + f 10 + f 11 + f 12 + f 13 + f 14 + f 15
  rw [show f 8 + f 9 + f 10 + f 11 + f 12 + f 13 + f 14 + f 15 = f 15 + f 14 + f 13 + f 12 + f 11 + f 10 + f 9 + f 8 by ac_rfl]
  exact congrArg₂ (· + ·) (congrArg₂ (· + ·) (congrArg₂ (· + ·) (congrArg₂ (· + ·) (congrArg₂ (· + ·) (congrArg₂ (· + ·) (congrArg₂ (· + ·) (hl) (hp 14 _ (by omega) _ (by show 7424 + (x : ℕ) = 512 * 14 + (256 + (x : ℕ)); omega))) (hp 13 _ (by omega) _ (by show 6912 + (x : ℕ) = 512 * 13 + (256 + (x : ℕ)); omega))) (hp 12 _ (by omega) _ (by show 6400 + (x : ℕ) = 512 * 12 + (256 + (x : ℕ)); omega))) (hp 11 _ (by omega) _ (by show 5888 + (x : ℕ) = 512 * 11 + (256 + (x : ℕ)); omega))) (hp 10 _ (by omega) _ (by show 5376 + (x : ℕ) = 512 * 10 + (256 + (x : ℕ)); omega))) (hp 9 _ (by omega) _ (by show 4864 + (x : ℕ) = 512 * 9 + (256 + (x : ℕ)); omega))) (hp 8 _ (by omega) _ (by show 4352 + (x : ℕ) = 512 * 8 + (256 + (x : ℕ)); omega))

set_option maxHeartbeats 1000000 in
/-- The mean over the last 16 rows is the reference's. -/
theorem mean3 (c : Dev nD) (t : Fin cfg0.N) (i : Fin 32) (x : Fin 128) :
    k0_pay13 (F := Ideal) (k0_pay12 (k0_pay3 (iblk m c 0 t) (iblk m c 3 t) (iblk m c 4 t)) (View.ld (iblk m c 2 t) (Rect.unit ![0, 7552] ![32, 128] inb_S32x7680_S32x128_0_7552)) (View.ld (iblk m c 2 t) (Rect.unit ![0, 7040] ![32, 128] inb_S32x7680_S32x128_0_7040)) (View.ld (iblk m c 2 t) (Rect.unit ![0, 6528] ![32, 128] inb_S32x7680_S32x128_0_6528)) (View.ld (iblk m c 2 t) (Rect.unit ![0, 6016] ![32, 128] inb_S32x7680_S32x128_0_6016)) (View.ld (iblk m c 2 t) (Rect.unit ![0, 5504] ![32, 128] inb_S32x7680_S32x128_0_5504)) (View.ld (iblk m c 2 t) (Rect.unit ![0, 4992] ![32, 128] inb_S32x7680_S32x128_0_4992)) (View.ld (iblk m c 2 t) (Rect.unit ![0, 4480] ![32, 128] inb_S32x7680_S32x128_0_4480)) (View.ld (iblk m c 2 t) (Rect.unit ![0, 3968] ![32, 128] inb_S32x7680_S32x128_0_3968)) (View.ld (iblk m c 2 t) (Rect.unit ![0, 3456] ![32, 128] inb_S32x7680_S32x128_0_3456)) (View.ld (iblk m c 2 t) (Rect.unit ![0, 2944] ![32, 128] inb_S32x7680_S32x128_0_2944)) (View.ld (iblk m c 2 t) (Rect.unit ![0, 2432] ![32, 128] inb_S32x7680_S32x128_0_2432))) (View.ld (iblk m c 2 t) (Rect.unit ![0, 1920] ![32, 128] inb_S32x7680_S32x128_0_1920)) (View.ld (iblk m c 2 t) (Rect.unit ![0, 1408] ![32, 128] inb_S32x7680_S32x128_0_1408)) (View.ld (iblk m c 2 t) (Rect.unit ![0, 896] ![32, 128] inb_S32x7680_S32x128_0_896)) (View.ld (iblk m c 2 t) (Rect.unit ![0, 384] ![32, 128] inb_S32x7680_S32x128_0_384)) (ix2 i x)
      = val_main_v38 (F := Ideal) (m ((c : Thread nD τ).loc main_arg0)) (m ((c : Thread nD τ).loc main_arg2)) (m ((c : Thread nD τ).loc main_arg3)) (m ((c : Thread nD τ).loc main_arg4)) (ix2 i x) := by
  have hs : (∑ r : Fin 16, val_main_v22 (F := Ideal) (m ((c : Thread nD τ).loc main_arg0)) (m ((c : Thread nD τ).loc main_arg2)) (m ((c : Thread nD τ).loc main_arg3)) (m ((c : Thread nD τ).loc main_arg4)) (ix3 i ⟨0 + (r : ℕ), by omega⟩ ⟨384 + (x : ℕ), by omega⟩))
      = ∑ r : Fin 16, hist m c i ⟨384 + (x : ℕ), by omega⟩ (0 + (r : ℕ)) :=
    Finset.sum_congr rfl fun r _ => by unfold hist; rw [dif_pos (by omega)]
  have hl := hist_last m c t i ⟨384 + (x : ℕ), by omega⟩
  have hp := hist_prev m c t i ⟨384 + (x : ℕ), by omega⟩
  generalize k0_pay3 (F := Ideal) (iblk m c 0 t) (iblk m c 3 t) (iblk m c 4 t) = b at hl ⊢
  pointwise [k0_pay13, k0_pay12, val_main_v35, val_main_v36, val_main_v37, val_main_v38, val_main_cst_8, val_main_cst_9]
  refine congrArg₂ Ideal.div ?_ rfl
  refine Eq.trans ?_ hs.symm
  generalize hist m c i ⟨384 + (x : ℕ), by omega⟩ = f at hl hp ⊢
  rw [Fin.sum_univ_eq_sum_range (fun r => f (0 + r)) 16]
  simp only [Finset.sum_range_succ, Finset.sum_range_zero, zero_add]
  show _ = f 0 + f 1 + f 2 + f 3 + f 4 + f 5 + f 6 + f 7 + f 8 + f 9 + f 10 + f 11 + f 12 + f 13 + f 14 + f 15
  rw [show f 0 + f 1 + f 2 + f 3 + f 4 + f 5 + f 6 + f 7 + f 8 + f 9 + f 10 + f 11 + f 12 + f 13 + f 14 + f 15 = f 15 + f 14 + f 13 + f 12 + f 11 + f 10 + f 9 + f 8 + f 7 + f 6 + f 5 + f 4 + f 3 + f 2 + f 1 + f 0 by ac_rfl]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (hl) (hp 14 _ (by omega) _ (by show 7552 + (x : ℕ) = 512 * 14 + (384 + (x : ℕ)); omega))) (hp 13 _ (by omega) _ (by show 7040 + (x : ℕ) = 512 * 13 + (384 + (x : ℕ)); omega))) (hp 12 _ (by omega) _ (by show 6528 + (x : ℕ) = 512 * 12 + (384 + (x : ℕ)); omega))) (hp 11 _ (by omega) _ (by show 6016 + (x : ℕ) = 512 * 11 + (384 + (x : ℕ)); omega))) (hp 10 _ (by omega) _ (by show 5504 + (x : ℕ) = 512 * 10 + (384 + (x : ℕ)); omega))) (hp 9 _ (by omega) _ (by show 4992 + (x : ℕ) = 512 * 9 + (384 + (x : ℕ)); omega))) (hp 8 _ (by omega) _ (by show 4480 + (x : ℕ) = 512 * 8 + (384 + (x : ℕ)); omega))) (hp 7 _ (by omega) _ (by show 3968 + (x : ℕ) = 512 * 7 + (384 + (x : ℕ)); omega))) (hp 6 _ (by omega) _ (by show 3456 + (x : ℕ) = 512 * 6 + (384 + (x : ℕ)); omega))) (hp 5 _ (by omega) _ (by show 2944 + (x : ℕ) = 512 * 5 + (384 + (x : ℕ)); omega))) (hp 4 _ (by omega) _ (by show 2432 + (x : ℕ) = 512 * 4 + (384 + (x : ℕ)); omega))) (hp 3 _ (by omega) _ (by show 1920 + (x : ℕ) = 512 * 3 + (384 + (x : ℕ)); omega))) (hp 2 _ (by omega) _ (by show 1408 + (x : ℕ) = 512 * 2 + (384 + (x : ℕ)); omega))) (hp 1 _ (by omega) _ (by show 896 + (x : ℕ) = 512 * 1 + (384 + (x : ℕ)); omega))) (hp 0 _ (by omega) _ (by show 384 + (x : ℕ) = 512 * 0 + (384 + (x : ℕ)); omega))

/-- The present row's channels as the reference's slice. -/
theorem last_at (c : Dev nD) (t : Fin cfg0.N) (i : Fin 32) (j : Fin 512) :
    k0_pay3 (F := Ideal) (iblk m c 0 t) (iblk m c 3 t) (iblk m c 4 t) (ix2 i j) = val_main_v17 (F := Ideal) (m ((c : Thread nD τ).loc main_arg0)) (m ((c : Thread nD τ).loc main_arg3)) (m ((c : Thread nD τ).loc main_arg4)) (ix2 i j) := by
  pointwise [k0_pay3, val_main_v17]
  refine (proj m c t _ _).trans ?_
  blk_point []

/-- The means' channels 0 to 127. -/
theorem means0 (c : Dev nD) (i : Fin 32) (x : Fin 128) (n : ℕ) (hn : n < 512) (e : n = 0 + (x : ℕ)) :
    val_main_v39 (F := Ideal) (m ((c : Thread nD τ).loc main_arg0)) (m ((c : Thread nD τ).loc main_arg2)) (m ((c : Thread nD τ).loc main_arg3)) (m ((c : Thread nD τ).loc main_arg4)) (ix2 i ⟨n, hn⟩)
      = val_main_v26 (F := Ideal) (m ((c : Thread nD τ).loc main_arg0)) (m ((c : Thread nD τ).loc main_arg2)) (m ((c : Thread nD τ).loc main_arg3)) (m ((c : Thread nD τ).loc main_arg4)) (ix2 i x) := by
  subst e
  pointwise [val_main_v39]

/-- The pool's channels 0 to 127. -/
theorem group0 (c : Dev nD) (t : Fin cfg0.N) (i : Fin 32) (j : Fin 128) (n : ℕ) (hn : n < 512) (e : n = 0 + (j : ℕ)) :
    k0_pay15 (F := Ideal) (k0_pay3 (iblk m c 0 t) (iblk m c 3 t) (iblk m c 4 t)) (k0_pay7 (F := Ideal) (k0_pay6 (iblk m c 0 t) (iblk m c 3 t) (iblk m c 4 t) (View.ld (iblk m c 2 t) (Rect.unit ![0, 7168] ![32, 128] inb_S32x7680_S32x128_0_7168)))) (View.ld (iblk m c 6 t) (Rect.unit ![0, 0, 0] ![1, 128, 128] inb_S4x128x128_S1x128x128_0_0_0)) (View.ld (iblk m c 7 t) (Rect.unit ![0, 0] ![1, 128] inb_S1x512_S1x128_0_0)) (ix2 i j)
      = val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 i ⟨n, hn⟩) := by
  have hm := mean0 m c t i
  have hl := last_at m c t i
  generalize k0_pay7 (F := Ideal) (k0_pay6 (iblk m c 0 t) (iblk m c 3 t) (iblk m c 4 t) (View.ld (iblk m c 2 t) (Rect.unit ![0, 7168] ![32, 128] inb_S32x7680_S32x128_0_7168))) = q at hm ⊢
  generalize (k0_pay3 (iblk m c 0 t) (iblk m c 3 t) (iblk m c 4 t)) = b at hl ⊢
  pointwise [k0_pay15, val_main_v40, val_main_v41, val_main_v42, val_main_v43, val_main_v44, val_main_v45, val_main_v46, val_main_v47]
  have e2 : n / 128 * 128 = 0 := by omega
  have e3 : n / 128 = 0 := by omega
  have e4 : n % 128 = (j : ℕ) := by omega
  refine congrArg₂ (· * ·) (Finset.sum_congr rfl fun x _ => (congrArg₂ (· * ·) (congrArg₂ (· - ·) ((hm x).trans (means0 m c i x _ _ (by omega)).symm) ((hl _).trans ?_)) ?_).trans (mul_comm _ _)) ?_
  · exact congrArg (val_main_v17 (F := Ideal) _ _ _) (congrArg (ix2 i) (Fin.ext (by show (x : ℕ) = n / 128 * 128 + (x : ℕ); omega)))
  · have hb : iblk m c 6 t (ix3 0 x j) = m (c.tc.loc main_arg6) (ix3 0 x j) := by
      blk_point [iblk, V, idx t]
    exact hb.trans (congrArg (m (c.tc.loc main_arg6)) (congrArg₂ (fun a b => ix3 a x b) (Fin.ext e3.symm) (Fin.ext e4.symm)))
  · have hb : iblk m c 7 t (ix2 0 ⟨(j : ℕ), by omega⟩) = m (c.tc.loc main_arg7) (ix1 ⟨(j : ℕ), by omega⟩) := by
      blk_point [iblk, V, idx t]
    exact hb.trans (congrArg (m (c.tc.loc main_arg7)) (congrArg (fun a => ix1 a) (Fin.ext (by show (j : ℕ) = n; omega))))

/-- The means' channels 128 to 255. -/
theorem means1 (c : Dev nD) (i : Fin 32) (x : Fin 128) (n : ℕ) (hn : n < 512) (e : n = 128 + (x : ℕ)) :
    val_main_v39 (F := Ideal) (m ((c : Thread nD τ).loc main_arg0)) (m ((c : Thread nD τ).loc main_arg2)) (m ((c : Thread nD τ).loc main_arg3)) (m ((c : Thread nD τ).loc main_arg4)) (ix2 i ⟨n, hn⟩)
      = val_main_v30 (F := Ideal) (m ((c : Thread nD τ).loc main_arg0)) (m ((c : Thread nD τ).loc main_arg2)) (m ((c : Thread nD τ).loc main_arg3)) (m ((c : Thread nD τ).loc main_arg4)) (ix2 i x) := by
  subst e
  pointwise [val_main_v39]

/-- The pool's channels 128 to 255. -/
theorem group1 (c : Dev nD) (t : Fin cfg0.N) (i : Fin 32) (j : Fin 128) (n : ℕ) (hn : n < 512) (e : n = 128 + (j : ℕ)) :
    k0_pay16 (F := Ideal) (k0_pay3 (iblk m c 0 t) (iblk m c 3 t) (iblk m c 4 t)) (k0_pay8 (F := Ideal) (k0_pay3 (iblk m c 0 t) (iblk m c 3 t) (iblk m c 4 t)) (View.ld (iblk m c 2 t) (Rect.unit ![0, 7296] ![32, 128] inb_S32x7680_S32x128_0_7296)) (View.ld (iblk m c 2 t) (Rect.unit ![0, 6784] ![32, 128] inb_S32x7680_S32x128_0_6784)) (View.ld (iblk m c 2 t) (Rect.unit ![0, 6272] ![32, 128] inb_S32x7680_S32x128_0_6272))) (View.ld (iblk m c 6 t) (Rect.unit ![1, 0, 0] ![1, 128, 128] inb_S4x128x128_S1x128x128_1_0_0)) (View.ld (iblk m c 7 t) (Rect.unit ![0, 128] ![1, 128] inb_S1x512_S1x128_0_128)) (ix2 i j)
      = val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 i ⟨n, hn⟩) := by
  have hm := mean1 m c t i
  have hl := last_at m c t i
  generalize k0_pay8 (F := Ideal) (k0_pay3 (iblk m c 0 t) (iblk m c 3 t) (iblk m c 4 t)) (View.ld (iblk m c 2 t) (Rect.unit ![0, 7296] ![32, 128] inb_S32x7680_S32x128_0_7296)) (View.ld (iblk m c 2 t) (Rect.unit ![0, 6784] ![32, 128] inb_S32x7680_S32x128_0_6784)) (View.ld (iblk m c 2 t) (Rect.unit ![0, 6272] ![32, 128] inb_S32x7680_S32x128_0_6272)) = q at hm ⊢
  generalize (k0_pay3 (iblk m c 0 t) (iblk m c 3 t) (iblk m c 4 t)) = b at hl ⊢
  pointwise [k0_pay16, val_main_v40, val_main_v41, val_main_v42, val_main_v43, val_main_v44, val_main_v45, val_main_v46, val_main_v47]
  have e2 : n / 128 * 128 = 128 := by omega
  have e3 : n / 128 = 1 := by omega
  have e4 : n % 128 = (j : ℕ) := by omega
  refine congrArg₂ (· * ·) (Finset.sum_congr rfl fun x _ => (congrArg₂ (· * ·) (congrArg₂ (· - ·) ((hm x).trans (means1 m c i x _ _ (by omega)).symm) ((hl _).trans ?_)) ?_).trans (mul_comm _ _)) ?_
  · exact congrArg (val_main_v17 (F := Ideal) _ _ _) (congrArg (ix2 i) (Fin.ext (by show 128 + (x : ℕ) = n / 128 * 128 + (x : ℕ); omega)))
  · have hb : iblk m c 6 t (ix3 1 x j) = m (c.tc.loc main_arg6) (ix3 1 x j) := by
      blk_point [iblk, V, idx t]
    exact hb.trans (congrArg (m (c.tc.loc main_arg6)) (congrArg₂ (fun a b => ix3 a x b) (Fin.ext e3.symm) (Fin.ext e4.symm)))
  · have hb : iblk m c 7 t (ix2 0 ⟨128 + (j : ℕ), by omega⟩) = m (c.tc.loc main_arg7) (ix1 ⟨128 + (j : ℕ), by omega⟩) := by
      blk_point [iblk, V, idx t]
    exact hb.trans (congrArg (m (c.tc.loc main_arg7)) (congrArg (fun a => ix1 a) (Fin.ext (by show 128 + (j : ℕ) = n; omega))))

/-- The means' channels 256 to 383. -/
theorem means2 (c : Dev nD) (i : Fin 32) (x : Fin 128) (n : ℕ) (hn : n < 512) (e : n = 256 + (x : ℕ)) :
    val_main_v39 (F := Ideal) (m ((c : Thread nD τ).loc main_arg0)) (m ((c : Thread nD τ).loc main_arg2)) (m ((c : Thread nD τ).loc main_arg3)) (m ((c : Thread nD τ).loc main_arg4)) (ix2 i ⟨n, hn⟩)
      = val_main_v34 (F := Ideal) (m ((c : Thread nD τ).loc main_arg0)) (m ((c : Thread nD τ).loc main_arg2)) (m ((c : Thread nD τ).loc main_arg3)) (m ((c : Thread nD τ).loc main_arg4)) (ix2 i x) := by
  subst e
  pointwise [val_main_v39]
  rw [dif_neg (by omega), dif_neg (by omega), dif_pos (by omega)]
  exact congrArg (val_main_v34 (F := Ideal) _ _ _ _) (congrArg (ix2 i) (Fin.ext (by show 256 + (x : ℕ) - 128 - 128 = (x : ℕ); omega)))

/-- The pool's channels 256 to 383. -/
theorem group2 (c : Dev nD) (t : Fin cfg0.N) (i : Fin 32) (j : Fin 128) (n : ℕ) (hn : n < 512) (e : n = 256 + (j : ℕ)) :
    k0_pay17 (F := Ideal) (k0_pay3 (iblk m c 0 t) (iblk m c 3 t) (iblk m c 4 t)) (k0_pay11 (F := Ideal) (k0_pay9 (k0_pay3 (iblk m c 0 t) (iblk m c 3 t) (iblk m c 4 t)) (View.ld (iblk m c 2 t) (Rect.unit ![0, 7424] ![32, 128] inb_S32x7680_S32x128_0_7424)) (View.ld (iblk m c 2 t) (Rect.unit ![0, 6912] ![32, 128] inb_S32x7680_S32x128_0_6912)) (View.ld (iblk m c 2 t) (Rect.unit ![0, 6400] ![32, 128] inb_S32x7680_S32x128_0_6400)) (View.ld (iblk m c 2 t) (Rect.unit ![0, 5888] ![32, 128] inb_S32x7680_S32x128_0_5888)) (View.ld (iblk m c 2 t) (Rect.unit ![0, 5376] ![32, 128] inb_S32x7680_S32x128_0_5376)) (View.ld (iblk m c 2 t) (Rect.unit ![0, 4864] ![32, 128] inb_S32x7680_S32x128_0_4864)) (View.ld (iblk m c 2 t) (Rect.unit ![0, 4352] ![32, 128] inb_S32x7680_S32x128_0_4352))) k0_pay10) (View.ld (iblk m c 6 t) (Rect.unit ![2, 0, 0] ![1, 128, 128] inb_S4x128x128_S1x128x128_2_0_0)) (ix2 i j) * iblk m c 7 t (ix2 0 ⟨256 + (j : ℕ), by omega⟩)
      = val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 i ⟨n, hn⟩) := by
  have hm := mean2 m c t i
  have hl := last_at m c t i
  generalize k0_pay11 (F := Ideal) (k0_pay9 (k0_pay3 (iblk m c 0 t) (iblk m c 3 t) (iblk m c 4 t)) (View.ld (iblk m c 2 t) (Rect.unit ![0, 7424] ![32, 128] inb_S32x7680_S32x128_0_7424)) (View.ld (iblk m c 2 t) (Rect.unit ![0, 6912] ![32, 128] inb_S32x7680_S32x128_0_6912)) (View.ld (iblk m c 2 t) (Rect.unit ![0, 6400] ![32, 128] inb_S32x7680_S32x128_0_6400)) (View.ld (iblk m c 2 t) (Rect.unit ![0, 5888] ![32, 128] inb_S32x7680_S32x128_0_5888)) (View.ld (iblk m c 2 t) (Rect.unit ![0, 5376] ![32, 128] inb_S32x7680_S32x128_0_5376)) (View.ld (iblk m c 2 t) (Rect.unit ![0, 4864] ![32, 128] inb_S32x7680_S32x128_0_4864)) (View.ld (iblk m c 2 t) (Rect.unit ![0, 4352] ![32, 128] inb_S32x7680_S32x128_0_4352))) k0_pay10 = q at hm ⊢
  generalize (k0_pay3 (iblk m c 0 t) (iblk m c 3 t) (iblk m c 4 t)) = b at hl ⊢
  pointwise [k0_pay17, val_main_v40, val_main_v41, val_main_v42, val_main_v43, val_main_v44, val_main_v45, val_main_v46, val_main_v47]
  have e2 : n / 128 * 128 = 256 := by omega
  have e3 : n / 128 = 2 := by omega
  have e4 : n % 128 = (j : ℕ) := by omega
  refine congrArg₂ (· * ·) (Finset.sum_congr rfl fun x _ => (congrArg₂ (· * ·) (congrArg₂ (· - ·) ((hm x).trans (means2 m c i x _ _ (by omega)).symm) ((hl _).trans ?_)) ?_).trans (mul_comm _ _)) ?_
  · exact congrArg (val_main_v17 (F := Ideal) _ _ _) (congrArg (ix2 i) (Fin.ext (by show 256 + (x : ℕ) = n / 128 * 128 + (x : ℕ); omega)))
  · have hb : iblk m c 6 t (ix3 2 x j) = m (c.tc.loc main_arg6) (ix3 2 x j) := by
      blk_point [iblk, V, idx t]
    exact hb.trans (congrArg (m (c.tc.loc main_arg6)) (congrArg₂ (fun a b => ix3 a x b) (Fin.ext e3.symm) (Fin.ext e4.symm)))
  · have hb : iblk m c 7 t (ix2 0 ⟨256 + (j : ℕ), by omega⟩) = m (c.tc.loc main_arg7) (ix1 ⟨256 + (j : ℕ), by omega⟩) := by
      blk_point [iblk, V, idx t]
    exact hb.trans (congrArg (m (c.tc.loc main_arg7)) (congrArg (fun a => ix1 a) (Fin.ext (by show 256 + (j : ℕ) = n; omega))))

/-- The means' channels 384 to 511. -/
theorem means3 (c : Dev nD) (i : Fin 32) (x : Fin 128) (n : ℕ) (hn : n < 512) (e : n = 384 + (x : ℕ)) :
    val_main_v39 (F := Ideal) (m ((c : Thread nD τ).loc main_arg0)) (m ((c : Thread nD τ).loc main_arg2)) (m ((c : Thread nD τ).loc main_arg3)) (m ((c : Thread nD τ).loc main_arg4)) (ix2 i ⟨n, hn⟩)
      = val_main_v38 (F := Ideal) (m ((c : Thread nD τ).loc main_arg0)) (m ((c : Thread nD τ).loc main_arg2)) (m ((c : Thread nD τ).loc main_arg3)) (m ((c : Thread nD τ).loc main_arg4)) (ix2 i x) := by
  subst e
  pointwise [val_main_v39]
  rw [dif_neg (by omega), dif_neg (by omega), dif_neg (by omega)]
  exact congrArg (val_main_v38 (F := Ideal) _ _ _ _) (congrArg (ix2 i) (Fin.ext (by show 384 + (x : ℕ) - 128 - 128 - 128 = (x : ℕ); omega)))

/-- The pool's channels 384 to 511. -/
theorem group3 (c : Dev nD) (t : Fin cfg0.N) (i : Fin 32) (j : Fin 128) (n : ℕ) (hn : n < 512) (e : n = 384 + (j : ℕ)) :
    (∑ x : Fin 128, (k0_pay13 (F := Ideal) (k0_pay12 (k0_pay3 (iblk m c 0 t) (iblk m c 3 t) (iblk m c 4 t)) (View.ld (iblk m c 2 t) (Rect.unit ![0, 7552] ![32, 128] inb_S32x7680_S32x128_0_7552)) (View.ld (iblk m c 2 t) (Rect.unit ![0, 7040] ![32, 128] inb_S32x7680_S32x128_0_7040)) (View.ld (iblk m c 2 t) (Rect.unit ![0, 6528] ![32, 128] inb_S32x7680_S32x128_0_6528)) (View.ld (iblk m c 2 t) (Rect.unit ![0, 6016] ![32, 128] inb_S32x7680_S32x128_0_6016)) (View.ld (iblk m c 2 t) (Rect.unit ![0, 5504] ![32, 128] inb_S32x7680_S32x128_0_5504)) (View.ld (iblk m c 2 t) (Rect.unit ![0, 4992] ![32, 128] inb_S32x7680_S32x128_0_4992)) (View.ld (iblk m c 2 t) (Rect.unit ![0, 4480] ![32, 128] inb_S32x7680_S32x128_0_4480)) (View.ld (iblk m c 2 t) (Rect.unit ![0, 3968] ![32, 128] inb_S32x7680_S32x128_0_3968)) (View.ld (iblk m c 2 t) (Rect.unit ![0, 3456] ![32, 128] inb_S32x7680_S32x128_0_3456)) (View.ld (iblk m c 2 t) (Rect.unit ![0, 2944] ![32, 128] inb_S32x7680_S32x128_0_2944)) (View.ld (iblk m c 2 t) (Rect.unit ![0, 2432] ![32, 128] inb_S32x7680_S32x128_0_2432))) (View.ld (iblk m c 2 t) (Rect.unit ![0, 1920] ![32, 128] inb_S32x7680_S32x128_0_1920)) (View.ld (iblk m c 2 t) (Rect.unit ![0, 1408] ![32, 128] inb_S32x7680_S32x128_0_1408)) (View.ld (iblk m c 2 t) (Rect.unit ![0, 896] ![32, 128] inb_S32x7680_S32x128_0_896)) (View.ld (iblk m c 2 t) (Rect.unit ![0, 384] ![32, 128] inb_S32x7680_S32x128_0_384)) (ix2 i x) - (k0_pay3 (iblk m c 0 t) (iblk m c 3 t) (iblk m c 4 t)) (ix2 i ⟨384 + (x : ℕ), by omega⟩)) * iblk m c 6 t (ix3 3 x j)) * iblk m c 7 t (ix2 0 ⟨384 + (j : ℕ), by omega⟩)
      = val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 i ⟨n, hn⟩) := by
  have hm := mean3 m c t i
  have hl := last_at m c t i
  generalize k0_pay13 (F := Ideal) (k0_pay12 (k0_pay3 (iblk m c 0 t) (iblk m c 3 t) (iblk m c 4 t)) (View.ld (iblk m c 2 t) (Rect.unit ![0, 7552] ![32, 128] inb_S32x7680_S32x128_0_7552)) (View.ld (iblk m c 2 t) (Rect.unit ![0, 7040] ![32, 128] inb_S32x7680_S32x128_0_7040)) (View.ld (iblk m c 2 t) (Rect.unit ![0, 6528] ![32, 128] inb_S32x7680_S32x128_0_6528)) (View.ld (iblk m c 2 t) (Rect.unit ![0, 6016] ![32, 128] inb_S32x7680_S32x128_0_6016)) (View.ld (iblk m c 2 t) (Rect.unit ![0, 5504] ![32, 128] inb_S32x7680_S32x128_0_5504)) (View.ld (iblk m c 2 t) (Rect.unit ![0, 4992] ![32, 128] inb_S32x7680_S32x128_0_4992)) (View.ld (iblk m c 2 t) (Rect.unit ![0, 4480] ![32, 128] inb_S32x7680_S32x128_0_4480)) (View.ld (iblk m c 2 t) (Rect.unit ![0, 3968] ![32, 128] inb_S32x7680_S32x128_0_3968)) (View.ld (iblk m c 2 t) (Rect.unit ![0, 3456] ![32, 128] inb_S32x7680_S32x128_0_3456)) (View.ld (iblk m c 2 t) (Rect.unit ![0, 2944] ![32, 128] inb_S32x7680_S32x128_0_2944)) (View.ld (iblk m c 2 t) (Rect.unit ![0, 2432] ![32, 128] inb_S32x7680_S32x128_0_2432))) (View.ld (iblk m c 2 t) (Rect.unit ![0, 1920] ![32, 128] inb_S32x7680_S32x128_0_1920)) (View.ld (iblk m c 2 t) (Rect.unit ![0, 1408] ![32, 128] inb_S32x7680_S32x128_0_1408)) (View.ld (iblk m c 2 t) (Rect.unit ![0, 896] ![32, 128] inb_S32x7680_S32x128_0_896)) (View.ld (iblk m c 2 t) (Rect.unit ![0, 384] ![32, 128] inb_S32x7680_S32x128_0_384)) = q at hm
  generalize (k0_pay3 (iblk m c 0 t) (iblk m c 3 t) (iblk m c 4 t)) = b at hl
  pointwise [val_main_v40, val_main_v41, val_main_v42, val_main_v43, val_main_v44, val_main_v45, val_main_v46, val_main_v47]
  have e2 : n / 128 * 128 = 384 := by omega
  have e3 : n / 128 = 3 := by omega
  have e4 : n % 128 = (j : ℕ) := by omega
  refine congrArg₂ (· * ·) (Finset.sum_congr rfl fun x _ => (congrArg₂ (· * ·) (congrArg₂ (· - ·) ((hm x).trans (means3 m c i x _ _ (by omega)).symm) ((hl _).trans ?_)) ?_).trans (mul_comm _ _)) ?_
  · exact congrArg (val_main_v17 (F := Ideal) _ _ _) (congrArg (ix2 i) (Fin.ext (by show 384 + (x : ℕ) = n / 128 * 128 + (x : ℕ); omega)))
  · have hb : iblk m c 6 t (ix3 3 x j) = m (c.tc.loc main_arg6) (ix3 3 x j) := by
      blk_point [iblk, V, idx t]
    exact hb.trans (congrArg (m (c.tc.loc main_arg6)) (congrArg₂ (fun a b => ix3 a x b) (Fin.ext e3.symm) (Fin.ext e4.symm)))
  · have hb : iblk m c 7 t (ix2 0 ⟨384 + (j : ℕ), by omega⟩) = m (c.tc.loc main_arg7) (ix1 ⟨384 + (j : ℕ), by omega⟩) := by
      blk_point [iblk, V, idx t]
    exact hb.trans (congrArg (m (c.tc.loc main_arg7)) (congrArg (fun a => ix1 a) (Fin.ext (by show 384 + (j : ℕ) = n; omega))))

/-- The mixer's channels: the gated convolution's, then the pool's. -/
theorem channels (c : Dev nD) (i : Fin 32) (x : Fin 1024) :
    val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i x)
      = if h : (x : ℕ) < 512 then val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 i ⟨x, h⟩)
        else val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg6)) (m ((c : Thread nD τ).loc main_arg7)) (ix2 i ⟨(x : ℕ) - 512, by omega⟩) := by
  pointwise [val_main_v53]

set_option maxHeartbeats 2000000 in
/-- The residual rows with the mixer's output added, at one element. -/
theorem mixed_at (c : Dev nD) (t : Fin cfg0.N) (y : S32x1024.Idx) : (outsAt0 (F := Ideal) m c t).1 y
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (y 0) (y 1)) := by
  unfold outsAt0; frame_out; simp only [read_unread_whole]
  have hg := gated m c t (y 0)
  have h0 := group0 m c t (y 0)
  have h1 := group1 m c t (y 0)
  have h2 := group2 m c t (y 0)
  have h3 := group3 m c t (y 0)
  have hc := channels m c (y 0)
  pointwise [k0_pay18, val_main_v54, val_main_v55]
  refine congrArg₂ (· + ·) ?_ (Finset.sum_congr rfl fun x _ => congrArg₂ (· * ·) ?_ ?_)
  · blk_point [iblk, V, idx t]
  · refine Eq.trans ?_ (hc x).symm
    by_cases d0 : (x : ℕ) < 512
    · rw [dif_pos d0, dif_pos d0]
      exact hg _
    rw [dif_neg d0, dif_neg d0]
    by_cases d1 : (x : ℕ) - 512 < 128
    · rw [dif_pos d1]
      exact h0 ⟨_, d1⟩ _ (by omega) (by show (x : ℕ) - 512 = 0 + ((x : ℕ) - 512); omega)
    rw [dif_neg d1]
    by_cases d2 : (x : ℕ) - 512 - 128 < 128
    · rw [dif_pos d2]
      exact h1 ⟨_, d2⟩ _ (by omega) (by show (x : ℕ) - 512 = 128 + ((x : ℕ) - 512 - 128); omega)
    rw [dif_neg d2]
    by_cases d3 : (x : ℕ) - 512 - 128 - 128 < 128
    · rw [dif_pos d3]
      exact h2 ⟨_, d3⟩ _ (by omega) (by show (x : ℕ) - 512 = 256 + ((x : ℕ) - 512 - 128 - 128); omega)
    rw [dif_neg d3]
    exact h3 ⟨(x : ℕ) - 512 - 128 - 128 - 128, by omega⟩ _ (by omega) (by show (x : ℕ) - 512 = 384 + ((x : ℕ) - 512 - 128 - 128 - 128); omega)
  · blk_point [iblk, V, idx t]

/-- The residual rows after the run. -/
theorem final9 (c : Dev nD) : (dats m 0 c).arrAt 9 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  refine (mixed_at m c t y).trans (congrArg _ (funext fun a => ?_))
  match a with
  | 0 => exact Fin.ext (by blk_simp [idx t])
  | 1 => exact Fin.ext (by blk_simp [idx t])

end Cert.MixSIdeal.Steps

end

end
-- ==== Proof.MixFinal.lean ====
/-
  The short convolution and pool of the prompt tokens: the states they leave are the reference's.
-/
module

public import proofs.«01_k».proof.Defs
public import proofs.«01_k».proof.Proof.Gen.MixIdeal.Frame
public import proofs.«01_k».proof.Proof.Gen.MixRefIdeal.Run
public import proofs.«01_k».proof.Proof.Gen.MixRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MixIdeal.Steps

open Cert.MixIdeal Cert.MixIdeal.Gen Cert.MixRefIdeal.Read Idealize.ShloMosaic Idealize.ShloMosaic.TcCoe Idealize.SL.Sem

variable (m : (ℓ : Loc nD τ sig) → Buf (Elt Ideal) ℓ)

/-- Which block of each array a point stages: tile `t`'s rows, and the weights whole. -/
theorem idx (t : Fin cfg0.N) : win0_0.index t = ![(t : ℕ), 0] ∧ win0_1.index t = ![0, 0] ∧ win0_2.index t = ![0, 0]
    ∧ win0_8.index t = ![(t : ℕ), 0, 0] ∧ win0_9.index t = ![(t : ℕ), 0, 0] := by
  revert t; decide +kernel

/-- Tile `t`'s rows are rows of the whole array. -/
theorem row_lt (t : Fin cfg0.N) (i : Fin 512) : 512 * (t : ℕ) + (i : ℕ) < 16384 := by
  have := t.isLt; have hN : cfg0.N = 32 := N_0; omega

/-- The gain as one row, as the region finds it. -/
theorem gain_row (c : Dev nD) : V m c main_v0 = shapeCast S1x1024 (m ((c : Thread nD τ).loc main_arg1)) shapeCasts_S1024_S1x1024 := by
  show StableHlo.after hostOps0 _ _ = _
  after_results
  rfl

/-- The gain's block is the whole row. -/
theorem gain_blk (t : Fin cfg0.N) (x : Fin 1024) : (win0_1.blk t).view.emb (ix2 0 x) = (ix2 0 x : S1x1024.Idx) := by
  funext a
  match a with
  | 0 => exact Fin.ext (by blk_simp [idx t])
  | 1 => exact Fin.ext (by blk_simp [idx t])

/-- One row of a tile's normalised input times the input projection. -/
theorem proj (c : Dev nD) (t : Fin cfg0.N) (i : Fin 512) (n : Fin 2048) :
    k0_pay4 (F := Ideal) (iblk m c 0 t) (iblk m c 1 t) (iblk m c 2 t) (ix2 i n)
      = val_main_v13 (F := Ideal) (m ((c : Thread nD τ).loc main_arg0)) (m ((c : Thread nD τ).loc main_arg1)) (m ((c : Thread nD τ).loc main_arg2)) (ix2 ⟨512 * (t : ℕ) + (i : ℕ), row_lt t i⟩ n) := by
  pointwise [k0_pay4, val_main_v0, val_main_cst, val_main_cst_0, val_main_cst_1, val_main_v1, val_main_v2, val_main_v3, val_main_v4, val_main_v5, val_main_v6, val_main_v7, val_main_v8, val_main_v9, val_main_v10, val_main_v11, val_main_v12, val_main_v13]
  blk_point [iblk, V, idx t]
  all_goals
    rw [gain_row m c]
    rw [gain_blk t x]
    pointwise []

/-- The last sixteen rows of a buffer whose rows from the sixteenth on were written last. -/
theorem tail_read (v : View sig .tc .vmem S528x512 .f32) (w : (Rect.unit (s := S528x512) ![16, 0] ![512, 512] inb_S528x512_S512x512_16_0).shape.Idx → Ideal .f32)
    (L : List (View.Piece (Elt Ideal) S528x512 .f32)) (i : Fin 16) (j : Fin 512) :
    v.readCov (⟨Rect.unit ![16, 0] ![512, 512] inb_S528x512_S512x512_16_0, w⟩ :: L)
        (Rect.unit (s := S528x512) ![512, 0] ![16, 512] inb_S528x512_S16x512_512_0).toLoadRect (ix2 i j)
      = w (ix2 ⟨496 + (i : ℕ), by omega⟩ j) := by
  rw [View.readCov_eq_canon']
  have e : (Rect.unit (s := S528x512) ![512, 0] ![16, 512] inb_S528x512_S16x512_512_0).toLoadRect.idx (ix2 i j)
      = (Rect.unit (s := S528x512) ![16, 0] ![512, 512] inb_S528x512_S512x512_16_0).emb (ix2 ⟨496 + (i : ℕ), by omega⟩ j) := by
    funext a
    match a with
    | 0 => exact Fin.ext (by show 512 + 1 * (i : ℕ) = 16 + 1 * (496 + (i : ℕ)); omega)
    | 1 => rfl
  show View.canon _ _ = _
  rw [e]
  exact View.canon_cons_emb _ w L _

/-- The last rows of a tile's gated values. -/
theorem conv_at (c : Dev nD) (t : Fin cfg0.N) (i : Fin 16) (j : Fin 512) : (outsAt0 (F := Ideal) m c t.val t.isLt).2.1 (ix3 0 i j)
    = k0_pay7 (F := Ideal) (iblk m c 0 t) (iblk m c 1 t) (iblk m c 2 t) (ix2 ⟨496 + (i : ℕ), by omega⟩ j) := by
  by_cases h : t.val % 16 = 0
  · rw [outsAt0_A m c t h (by omega)]
    unfold out0_A_8
    frame_out
    pointwise [k0_pay2]
    refine (tail_read _ _ _ _ _).trans ?_
    pointwise [k0_pay12]
  · rw [outsAt0_B m c t h h]
    unfold out0_B_8
    frame_out
    pointwise [k0_pay2]
    refine (tail_read _ _ _ _ _).trans ?_
    pointwise [k0_pay12]

/-- The last rows of a tile's pooling inputs. -/
theorem pool_at (c : Dev nD) (t : Fin cfg0.N) (i : Fin 16) (j : Fin 512) : (outsAt0 (F := Ideal) m c t.val t.isLt).2.2.1 (ix3 0 i j)
    = k0_pay6 (F := Ideal) (iblk m c 0 t) (iblk m c 1 t) (iblk m c 2 t) (ix2 ⟨496 + (i : ℕ), by omega⟩ j) := by
  by_cases h : t.val % 16 = 0
  · rw [outsAt0_A m c t h (by omega)]
    unfold out0_A_9
    frame_out
    pointwise [k0_pay3]
    refine (tail_read _ _ _ _ _).trans ?_
    pointwise [k0_pay13]
  · rw [outsAt0_B m c t h h]
    unfold out0_B_9
    frame_out
    pointwise [k0_pay3]
    refine (tail_read _ _ _ _ _).trans ?_
    pointwise [k0_pay13]

/-- Row `r` of the input projection's columns from `o` on. -/
def cols (c : Dev nD) (o : ℕ) (ho : o + 512 ≤ 2048) (r : ℕ) (hr : r < 16384) (j : Fin 512) : EReal :=
  val_main_v13 (F := Ideal) (m ((c : Thread nD τ).loc main_arg0)) (m ((c : Thread nD τ).loc main_arg1)) (m ((c : Thread nD τ).loc main_arg2)) (ix2 ⟨r, hr⟩ ⟨o + (j : ℕ), by omega⟩)

/-- The same entry by its two coordinates. -/
theorem cols_eq (c : Dev nD) (o : ℕ) (ho : o + 512 ≤ 2048) (r : ℕ) (hr : r < 16384) (j : Fin 512) (r' : ℕ) (hr' : r' < 16384) (o' : ℕ)
    (ho' : o' < 2048) (er : r = r') (eo : o + (j : ℕ) = o') :
    cols m c o ho r hr j = val_main_v13 (F := Ideal) (m ((c : Thread nD τ).loc main_arg0)) (m ((c : Thread nD τ).loc main_arg1)) (m ((c : Thread nD τ).loc main_arg2)) (ix2 ⟨r', hr'⟩ ⟨o', ho'⟩) := by
  subst er; subst eo; rfl

/-- Row `i` of tile `t`'s last sixteen. -/
theorem tail_lt (t : Fin 32) (i : Fin 16) : 512 * (t : ℕ) + (496 + (i : ℕ)) < 16384 := by omega

/-- The gated values' last sixteen rows of every tile. -/
def convs (c : Dev nD) : S32x16x512.Idx → EReal := fun y =>
  cols m c 1024 (by omega) _ (tail_lt (y 0) (y 1)) (y 2) * cols m c 0 (by omega) _ (tail_lt (y 0) (y 1)) (y 2)

/-- The pooling inputs' last sixteen rows of every tile. -/
def pools (c : Dev nD) : S32x16x512.Idx → EReal := fun y =>
  cols m c 1536 (by omega) _ (tail_lt (y 0) (y 1)) (y 2)

/-- The gated values' rows after the run. -/
theorem final8 (c : Dev nD) : (dats m 0 c).arrAt 8 (cfgs 0).N = convs m c := by
  refine (dats m 0 c).arrAt_eq_of_covers 8 _ (by decide +kernel) fun t hf y => ?_
  blk_simp
  rw [after0_8]
  have hy : y = ix3 0 (y 1) (y 2) := by
    funext a
    match a with
    | 0 => exact Fin.ext (by have := (y 0).isLt; show (y 0 : ℕ) = 0; exact Nat.lt_one_iff.mp this)
    | 1 => rfl
    | 2 => rfl
  rw [hy]
  refine (conv_at m c t (y 1) (y 2)).trans ?_
  pointwise [k0_pay7]
  refine (congrArg₂ (· * ·) (proj m c t _ _) (proj m c t _ _)).trans ?_
  unfold convs cols
  refine congrArg₂ (· * ·) (congrArg _ (funext fun a => ?_)) (congrArg _ (funext fun a => ?_))
  · match a with
    | 0 => exact Fin.ext (by show 512 * (t : ℕ) + (496 + (y 1 : ℕ)) = _; blk_simp [idx t]; rfl)
    | 1 => exact Fin.ext (by show 1024 + (y 2 : ℕ) = _; blk_simp [idx t])
  · match a with
    | 0 => exact Fin.ext (by show 512 * (t : ℕ) + (496 + (y 1 : ℕ)) = _; blk_simp [idx t]; rfl)
    | 1 => exact Fin.ext (by show (y 2 : ℕ) = _; blk_simp [idx t])

/-- The pooling inputs' rows after the run. -/
theorem final9 (c : Dev nD) : (dats m 0 c).arrAt 9 (cfgs 0).N = pools m c := by
  refine (dats m 0 c).arrAt_eq_of_covers 9 _ (by decide +kernel) fun t hf y => ?_
  blk_simp
  rw [after0_9]
  have hy : y = ix3 0 (y 1) (y 2) := by
    funext a
    match a with
    | 0 => exact Fin.ext (by have := (y 0).isLt; show (y 0 : ℕ) = 0; exact Nat.lt_one_iff.mp this)
    | 1 => rfl
    | 2 => rfl
  rw [hy]
  refine (pool_at m c t (y 1) (y 2)).trans ?_
  pointwise [k0_pay6]
  refine (proj m c t _ _).trans ?_
  unfold pools cols
  refine congrArg _ (funext fun a => ?_)
  match a with
  | 0 => exact Fin.ext (by show 512 * (t : ℕ) + (496 + (y 1 : ℕ)) = _; blk_simp [idx t]; rfl)
  | 1 => exact Fin.ext (by show 1536 + (y 2 : ℕ) = _; blk_simp [idx t])

set_option maxHeartbeats 1000000 in
/-- The convolution state the program returns. -/
theorem finalC (c : Dev nD) : Pipeline.afterTail₀ cfgs (dats m) 0 (V0 m) [hostOps1] c main_v8 = val_main_v19 (F := Ideal) (m ((c : Thread nD τ).loc main_arg0)) (m ((c : Thread nD τ).loc main_arg1)) (m ((c : Thread nD τ).loc main_arg2)) := by
  have e : Pipeline.afterTail₀ cfgs (dats m) 0 (V0 m) [hostOps1] c main_v8
      = shapeCast S2x2x512 (extractStridedSlice S2x1x2x512 ![0, 15, 14, 0] (shapeCast S2x16x16x512 (convs m c) shapeCasts_S32x16x512_S2x16x16x512) slices_S2x16x16x512_S2x1x2x512_0_15_14_0) shapeCasts_S2x1x2x512_S2x2x512 := by
    show StableHlo.after hostOps1 _ (Proc.devRef .tc main_v8) = _
    after_results
    have ea : Pipeline.withArrays (cfgs 0).spec c (V0 m c) (fun w => (dats m 0 c).arrAt w (cfgs 0).N) (Proc.tc.devRef main_v5_1) = convs m c :=
      (Pipeline.withArrays_arr spec0 (by decide) c (V0 m c) (fun w => (dats m 0 c).arrAt w (cfgs 0).N) 8).trans (final8 m c)
    rw [ea]
    rfl
  rw [e]
  funext i
  obtain ⟨b, r, j, rfl⟩ : ∃ b r j, i = ix3 b r j := ⟨i 0, i 1, i 2, by
    funext a
    match a with
    | 0 => rfl
    | 1 => rfl
    | 2 => rfl⟩
  pointwise [val_main_v14, val_main_v15, val_main_v16, val_main_v18, val_main_v19, convs]
  refine congrArg₂ (· * ·) (cols_eq m c _ _ _ _ _ _ _ _ _ (by omega) rfl) (cols_eq m c _ _ _ _ _ _ _ _ _ (by omega) (Nat.zero_add _))

set_option maxHeartbeats 1000000 in
/-- The pooling state the program returns. -/
theorem finalP (c : Dev nD) : Pipeline.afterTail₀ cfgs (dats m) 0 (V0 m) [hostOps1] c main_v11 = val_main_v20 (F := Ideal) (m ((c : Thread nD τ).loc main_arg0)) (m ((c : Thread nD τ).loc main_arg1)) (m ((c : Thread nD τ).loc main_arg2)) := by
  have e : Pipeline.afterTail₀ cfgs (dats m) 0 (V0 m) [hostOps1] c main_v11
      = shapeCast S2x15x512 (extractStridedSlice S2x1x15x512 ![0, 15, 1, 0] (shapeCast S2x16x16x512 (pools m c) shapeCasts_S32x16x512_S2x16x16x512) slices_S2x16x16x512_S2x1x15x512_0_15_1_0) shapeCasts_S2x1x15x512_S2x15x512 := by
    show StableHlo.after hostOps1 _ (Proc.devRef .tc main_v11) = _
    after_results
    have ea : Pipeline.withArrays (cfgs 0).spec c (V0 m c) (fun w => (dats m 0 c).arrAt w (cfgs 0).N) (Proc.tc.devRef main_v5_2) = pools m c :=
      (Pipeline.withArrays_arr spec0 (by decide) c (V0 m c) (fun w => (dats m 0 c).arrAt w (cfgs 0).N) 9).trans (final9 m c)
    rw [ea]
    rfl
  rw [e]
  funext i
  obtain ⟨b, r, j, rfl⟩ : ∃ b r j, i = ix3 b r j := ⟨i 0, i 1, i 2, by
    funext a
    match a with
    | 0 => rfl
    | 1 => rfl
    | 2 => rfl⟩
  pointwise [val_main_v14, val_main_v17, val_main_v20, pools]
  exact cols_eq m c _ _ _ _ _ _ _ _ _ (by omega) rfl

end Cert.MixIdeal.Steps

end

end
-- ==== Proof.MobaIdealFrame.lean ====
/-
  The prompt attention kernel's frame: its two score loops go through an invariant that says nothing of the scratch
  they fill, and the result window is forgotten.
-/
module

public import proofs.«01_k».proof.Proof.Gen.MobaIdeal.Frame
public import proofs.«01_k».proof.Proof.Gen.MobaIdeal.Loops
public import proofs.«01_k».proof.Proof.Gen.MobaIdeal.Skeleton
public import Idealize.ShloMosaic.Lib.Pipeline.Frame
public import Idealize.ShloMosaic.Lib.Tactic

@[expose] public section

set_option maxRecDepth 16384
set_option maxHeartbeats 4000000

noncomputable section

namespace Cert.MobaIdeal.Hand

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Where a trip of the score loop puts its block `r`. -/
theorem off2_eq : ∀ (i : grid0.Coords) (k : Fin (k0_t1_loop i).trips), ∀ (r : Fin 4),
    k0_off2 i k (BitVec.ofNat 32 r.val) = ![0, 4 * (k : ℕ) + r.val, 0, 0] := by
  decide +kernel

instance closedOff2_0 (i : grid0.Coords) (k : Fin (k0_t1_loop i).trips) : ClosedOff (k0_off2 i k 0#32) :=
  ⟨![0, 4 * (k : ℕ) + 0, 0, 0], off2_eq i k ⟨0, by decide⟩⟩

instance closedOff2_1 (i : grid0.Coords) (k : Fin (k0_t1_loop i).trips) : ClosedOff (k0_off2 i k 1#32) :=
  ⟨![0, 4 * (k : ℕ) + 1, 0, 0], off2_eq i k ⟨1, by decide⟩⟩

instance closedOff2_2 (i : grid0.Coords) (k : Fin (k0_t1_loop i).trips) : ClosedOff (k0_off2 i k 2#32) :=
  ⟨![0, 4 * (k : ℕ) + 2, 0, 0], off2_eq i k ⟨2, by decide⟩⟩

instance closedOff2_3 (i : grid0.Coords) (k : Fin (k0_t1_loop i).trips) : ClosedOff (k0_off2 i k 3#32) :=
  ⟨![0, 4 * (k : ℕ) + 3, 0, 0], off2_eq i k ⟨3, by decide⟩⟩

/-- Where a trip of the score loop puts its block `r`. -/
theorem off3_eq : ∀ (i : grid0.Coords) (k : Fin (k0_t1_loop i).trips), ∀ (r : Fin 4),
    k0_off3 i k (BitVec.ofNat 32 r.val) = ![1, 4 * (k : ℕ) + r.val, 0, 0] := by
  decide +kernel

instance closedOff3_0 (i : grid0.Coords) (k : Fin (k0_t1_loop i).trips) : ClosedOff (k0_off3 i k 0#32) :=
  ⟨![1, 4 * (k : ℕ) + 0, 0, 0], off3_eq i k ⟨0, by decide⟩⟩

instance closedOff3_1 (i : grid0.Coords) (k : Fin (k0_t1_loop i).trips) : ClosedOff (k0_off3 i k 1#32) :=
  ⟨![1, 4 * (k : ℕ) + 1, 0, 0], off3_eq i k ⟨1, by decide⟩⟩

instance closedOff3_2 (i : grid0.Coords) (k : Fin (k0_t1_loop i).trips) : ClosedOff (k0_off3 i k 2#32) :=
  ⟨![1, 4 * (k : ℕ) + 2, 0, 0], off3_eq i k ⟨2, by decide⟩⟩

instance closedOff3_3 (i : grid0.Coords) (k : Fin (k0_t1_loop i).trips) : ClosedOff (k0_off3 i k 3#32) :=
  ⟨![1, 4 * (k : ℕ) + 3, 0, 0], off3_eq i k ⟨3, by decide⟩⟩

/-- Where a trip of the score loop puts its block `r`. -/
theorem off5_eq : ∀ (i : grid0.Coords) (k : Fin (k0_t2_loop i).trips), ∀ (r : Fin 4),
    k0_off5 i k (BitVec.ofNat 32 r.val) = ![0, 4 * ((k0_t1_loop i).trips + (k : ℕ)) + r.val, 0, 0] := by
  decide +kernel

instance closedOff5_0 (i : grid0.Coords) (k : Fin (k0_t2_loop i).trips) : ClosedOff (k0_off5 i k 0#32) :=
  ⟨![0, 4 * ((k0_t1_loop i).trips + (k : ℕ)) + 0, 0, 0], off5_eq i k ⟨0, by decide⟩⟩

instance closedOff5_1 (i : grid0.Coords) (k : Fin (k0_t2_loop i).trips) : ClosedOff (k0_off5 i k 1#32) :=
  ⟨![0, 4 * ((k0_t1_loop i).trips + (k : ℕ)) + 1, 0, 0], off5_eq i k ⟨1, by decide⟩⟩

instance closedOff5_2 (i : grid0.Coords) (k : Fin (k0_t2_loop i).trips) : ClosedOff (k0_off5 i k 2#32) :=
  ⟨![0, 4 * ((k0_t1_loop i).trips + (k : ℕ)) + 2, 0, 0], off5_eq i k ⟨2, by decide⟩⟩

instance closedOff5_3 (i : grid0.Coords) (k : Fin (k0_t2_loop i).trips) : ClosedOff (k0_off5 i k 3#32) :=
  ⟨![0, 4 * ((k0_t1_loop i).trips + (k : ℕ)) + 3, 0, 0], off5_eq i k ⟨3, by decide⟩⟩

/-- Where a trip of the score loop puts its block `r`. -/
theorem off6_eq : ∀ (i : grid0.Coords) (k : Fin (k0_t2_loop i).trips), ∀ (r : Fin 4),
    k0_off6 i k (BitVec.ofNat 32 r.val) = ![1, 4 * ((k0_t1_loop i).trips + (k : ℕ)) + r.val, 0, 0] := by
  decide +kernel

instance closedOff6_0 (i : grid0.Coords) (k : Fin (k0_t2_loop i).trips) : ClosedOff (k0_off6 i k 0#32) :=
  ⟨![1, 4 * ((k0_t1_loop i).trips + (k : ℕ)) + 0, 0, 0], off6_eq i k ⟨0, by decide⟩⟩

instance closedOff6_1 (i : grid0.Coords) (k : Fin (k0_t2_loop i).trips) : ClosedOff (k0_off6 i k 1#32) :=
  ⟨![1, 4 * ((k0_t1_loop i).trips + (k : ℕ)) + 1, 0, 0], off6_eq i k ⟨1, by decide⟩⟩

instance closedOff6_2 (i : grid0.Coords) (k : Fin (k0_t2_loop i).trips) : ClosedOff (k0_off6 i k 2#32) :=
  ⟨![1, 4 * ((k0_t1_loop i).trips + (k : ℕ)) + 2, 0, 0], off6_eq i k ⟨2, by decide⟩⟩

instance closedOff6_3 (i : grid0.Coords) (k : Fin (k0_t2_loop i).trips) : ClosedOff (k0_off6 i k 3#32) :=
  ⟨![1, 4 * ((k0_t1_loop i).trips + (k : ℕ)) + 3, 0, 0], off6_eq i k ⟨3, by decide⟩⟩

set_option warn.classDefReducibility false in
/-- The score loop: the key blocks are read, the two scratch buffers end at some contents. -/
@[sl_loop] def loopInv_k0_t1 (𝒱 : Variants) (c : Dev nD) (bd : Option 𝒱.V) (E : Set ℕ) (i : grid0.Coords) (arg3 : Memref sig .tc .vmem S256x128 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x32x128 .f32) (harg6 : arg6.IsWhole) (arg7 : Memref sig .tc .vmem S256x128 .bf16) (harg7 : arg7.IsWhole) (arg8 : Memref sig .tc .vmem S2x35x256x256 .f32) (harg8 : arg8.IsWhole) (arg9 : Memref sig .tc .vmem S2x256x128 .f32) (harg9 : arg9.IsWhole) (arg2 : BitVec 32) (v11 : FVec F S256x128 .f32) (v76 : FVec F S256x128 .bf16) (v81 : FVec F S256x256 .bf16) (v135 : IVec S256x128 1) (cst_36 : F .f32) (X : BufTy.Contents (Elt F) arg4.view.ty) :
    LoopInvTy_k0_t1 (F := F) Unit ℕ (UR sig nD τ) ℕ 𝒱 c bd E i arg3 harg3 arg4 harg4 arg5 harg5 arg6 harg6 arg7 harg7 arg8 harg8 arg9 harg9 arg2 v11 v76 v81 v135 cst_36 where
  inv k acc := iprop((arg4.view.loc (c : Thread nD τ) ↦[arg4.view.set]{fullShare} X)
    ∗ (∃ f : BufTy.Contents (Elt F) arg8.view.ty, arg8.view.loc (c : Thread nD τ) ↦[arg8.view.set]{fullShare} f)
    ∗ (∃ f : BufTy.Contents (Elt F) arg9.view.ty, arg9.view.loc (c : Thread nD τ) ↦[arg9.view.set]{fullShare} f))
  step k acc := by
    unfold k0_t1_body
    iintro ⟨H4, ⟨%f8, H8⟩, ⟨%f9, H9⟩⟩
    sl_exec
    sl_step
    isplitl [H4]; · iexact H4
    isplitl [H8]; · iexists _; iexact H8
    iexists _; iexact H9

set_option warn.classDefReducibility false in
/-- The score loop: the key blocks are read, the two scratch buffers end at some contents. -/
@[sl_loop] def loopInv_k0_t2 (𝒱 : Variants) (c : Dev nD) (bd : Option 𝒱.V) (E : Set ℕ) (i : grid0.Coords) (arg3 : Memref sig .tc .vmem S256x128 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x32x128 .f32) (harg6 : arg6.IsWhole) (arg7 : Memref sig .tc .vmem S256x128 .bf16) (harg7 : arg7.IsWhole) (arg8 : Memref sig .tc .vmem S2x35x256x256 .f32) (harg8 : arg8.IsWhole) (arg9 : Memref sig .tc .vmem S2x256x128 .f32) (harg9 : arg9.IsWhole) (arg2 : BitVec 32) (v11 : FVec F S256x128 .f32) (v76 : FVec F S256x128 .bf16) (v81 : FVec F S256x256 .bf16) (v135 : IVec S256x128 1) (cst_36 : F .f32) (v154 : BitVec 32) (X : BufTy.Contents (Elt F) arg4.view.ty) :
    LoopInvTy_k0_t2 (F := F) Unit ℕ (UR sig nD τ) ℕ 𝒱 c bd E i arg3 harg3 arg4 harg4 arg5 harg5 arg6 harg6 arg7 harg7 arg8 harg8 arg9 harg9 arg2 v11 v76 v81 v135 cst_36 v154 where
  inv k acc := iprop((arg4.view.loc (c : Thread nD τ) ↦[arg4.view.set]{fullShare} X)
    ∗ (∃ f : BufTy.Contents (Elt F) arg8.view.ty, arg8.view.loc (c : Thread nD τ) ↦[arg8.view.set]{fullShare} f)
    ∗ (∃ f : BufTy.Contents (Elt F) arg9.view.ty, arg9.view.loc (c : Thread nD τ) ↦[arg9.view.set]{fullShare} f))
  step k acc := by
    unfold k0_t2_body
    iintro ⟨H4, ⟨%f8, H8⟩, ⟨%f9, H9⟩⟩
    sl_exec
    sl_step
    isplitl [H4]; · iexact H4
    isplitl [H8]; · iexists _; iexact H8
    iexists _; iexact H9

/-- The body's triple: the inputs as they were, the result and the two scratch buffers at some contents. -/
theorem kernelRun (c : Dev nD) (i : grid0.Coords) (arg3 : Memref sig .tc .vmem S256x128 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x32x128 .f32) (harg6 : arg6.IsWhole) (arg7 : Memref sig .tc .vmem S256x128 .bf16) (harg7 : arg7.IsWhole) (arg8 : Memref sig .tc .vmem S2x35x256x256 .f32) (harg8 : arg8.IsWhole) (arg9 : Memref sig .tc .vmem S2x256x128 .f32) (harg9 : arg9.IsWhole)
    (x0 : Vec F S256x128 .f32) (x1 : Vec F S8192x256 .bf16) (x2 : Vec F S8192x256 .bf16) (x3 : Vec F S1x32x128 .f32) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d) ∗ (∃ d, owns (c : Thread nD τ) arg8 fullShare d)
            ∗ (∃ d, owns (c : Thread nD τ) arg9 fullShare d)) -∗ K ⟨⟩))
      ⊢ wp frame (wpE (defs₀ (F := F)) Variants.none c none) Set.univ (cc0_moba_prompt i arg3 harg3 arg4 harg4 arg5 harg5 arg6 harg6 arg7 harg7 arg8 harg8 arg9 harg9) K := by
  simp only [cc0_moba_prompt_eq_skeleton]; unfold cc0_moba_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _, _; isplitr; swap; · iexact H4
    ipureintro; rfl
  isplitl [HS0]
  · iexists _, _; isplitr; swap; · iexact HS0
    ipureintro; rfl
  iexists _, _; isplitr; swap; · iexact HS1
  ipureintro; rfl

/-- The result window is forgotten. -/
def forgets : Fin 5 → Bool := fun w => w == 4

/-- The proof data: every input's buffer keeps its block, the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

/-- The two scratch buffers and the generator register, one by one. -/
theorem PhiA0_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ d, owns (c : Thread nD τ) (win0_4.stage (cfg0.slots t 4)) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq, after0_0, after0_1, after0_2, after0_3]
  iintro ⟨⟨⟨HS0, HS1⟩, Hg⟩, Ho, ⟨%d0, H0⟩, ⟨%d1, H1⟩, ⟨%d2, H2⟩, ⟨%d3, H3⟩, ⟨%d4, H4⟩⟩
  iapply (kernelRun c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at a point. -/
theorem defs₀_row (t : Fin cfg0.N) : defs₀ (F := F) .tc cfg0.body (cfg0.bodyArgs t (cfg0.slots t)) = bodyAt0 t := by
  unfold defs₀; rw [Defs.onTc_tc]

/-- The library's body obligation with the result forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every run ends, with the counters at zero and the inputs' arrays as launched. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨Pipeline.RDat.FramePost.arr_in h.1 c 0 rfl, Pipeline.RDat.FramePost.arr_in h.1 c 1 rfl, Pipeline.RDat.FramePost.arr_in h.1 c 2 rfl, Pipeline.RDat.FramePost.arr_in h.1 c 3 rfl⟩, h.2⟩) (run_main m ρ)

end Cert.MobaIdeal.Hand

end

end
-- ==== Proof.FfnFinal.lean ====
/-
  The dense feed-forward kernel's result array is the reference's answer: the four column chunks of the hidden width add
  up to the whole product.
-/
module

public import proofs.«01_k».proof.Defs
public import proofs.«01_k».proof.Proof.Gen.FfnIdeal.Frame
public import proofs.«01_k».proof.Proof.Gen.FfnRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnIdeal.Steps

open Cert.FfnIdeal Cert.FfnIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- A sum over the hidden width is the sum over its four chunks. -/
theorem sum_chunks (f : Fin 2816 → EReal) : ∑ k, f k
    = ∑ k : Fin 768, f ⟨k, by omega⟩ + ∑ k : Fin 768, f ⟨768 + k, by omega⟩ + ∑ k : Fin 768, f ⟨1536 + k, by omega⟩
      + ∑ k : Fin 512, f ⟨2304 + k, by omega⟩ := by
  have h3 := Fin.sum_univ_add (a := 2304) (b := 512) f
  have h2 := Fin.sum_univ_add (a := 1536) (b := 768) (fun k : Fin 2304 => f (Fin.castAdd 512 k))
  have h1 := Fin.sum_univ_add (a := 768) (b := 768) (fun k : Fin 1536 => f (Fin.castAdd 512 (Fin.castAdd 768 k)))
  exact h3.trans (congrArg (· + _) (h2.trans (congrArg (· + _) h1)))

/-- The stream after the feed-forward, from a tile's blocks. -/
def stream (c : Dev nD) (t : Fin cfg0.N) : FVec Ideal S512x1024 .f32 :=
  k0_pay6 (F := Ideal) (iblk m c 0 t) (k0_pay2 (iblk m c 0 t) (iblk m c 2 t))
    (k0_pay3 (iblk m c 0 t) (iblk m c 2 t) (View.ld (iblk m c 3 t) r0_2) (View.ld (iblk m c 4 t) r0_2) (View.ld (iblk m c 5 t) r0_3))
    (k0_pay4 (iblk m c 0 t) (iblk m c 2 t) (View.ld (iblk m c 3 t) r0_4)) (k0_pay5 (iblk m c 0 t) (iblk m c 2 t) (View.ld (iblk m c 4 t) r0_4))
    (View.ld (iblk m c 5 t) r0_5) (View.ld (iblk m c 3 t) r0_6) (View.ld (iblk m c 4 t) r0_6) (View.ld (iblk m c 5 t) r0_7)
    (View.ld (iblk m c 3 t) r0_8) (View.ld (iblk m c 4 t) r0_8) (View.ld (iblk m c 5 t) r0_9)

open Cert.FfnRefIdeal.Read in
/-- The stream after the feed-forward is the reference's, row by row. -/
theorem stream_at (c : Dev nD) (t : Fin cfg0.N) (i : Fin 512) (j : Fin 1024) (h : 512 * t.val + i < 16384) :
    stream m c t (ix2 i j) = val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 ⟨512 * t.val + i, h⟩ j) := by
  unfold stream
  pointwise [k0_pay2, k0_pay3, k0_pay4, k0_pay5, k0_pay6, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_cst_0, val_main_call0_v0, val_main_call0_v1, val_main_call0_v2, val_main_call0_v3, val_main_call0_v4, val_main_call0_v5]
  rw [sum_chunks]
  simp only [Ideal.logistic]
  blk_point [iblk, V, idx t]

open Cert.FfnRefIdeal.Read in
/-- What a point stores is the reference's answer at the place it is stored to, and the blocks tile the array. -/
theorem final (c : Dev nD) : (dats m 0 c).arrAt 9 (cfgs 0).N
    = Cert.FfnRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  frame_out
  have hS := stream_at m c t
  unfold stream at hS
  generalize k0_pay6 (F := Ideal) _ _ _ _ _ _ _ _ _ _ _ _ = S at hS ⊢
  pointwise [k0_pay1, k0_pay7, val_main_cst_2, val_main_cst_3, val_main_cst_4, val_main_cst_5, val_main_cst_6, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  simp only [Ideal.logistic]
  blk_point [iblk, V, idx t]
  · refine (congrArg S (show y = ix2 (y 0) (y 1) from by funext k; match k with | 0 => rfl | 1 => rfl)).trans ((hS (y 0) (y 1) (by omega)).trans ?_)
    blk_point [idx t]
  · refine (hS (y 0) x (by omega)).trans ?_
    blk_point [idx t]

end Cert.FfnIdeal.Steps
-- ==== Proof.FfnSFinal.lean ====
/-
  The dense feed-forward kernel's result array is the reference's answer: the four column chunks of the hidden width add
  up to the whole product.
-/
module

public import proofs.«01_k».proof.Defs
public import proofs.«01_k».proof.Proof.Gen.FfnSIdeal.Frame
public import proofs.«01_k».proof.Proof.Gen.FfnSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnSIdeal.Steps

open Cert.FfnSIdeal Cert.FfnSIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- A sum over the hidden width is the sum over its four chunks. -/
theorem sum_chunks (f : Fin 2816 → EReal) : ∑ k, f k
    = ∑ k : Fin 768, f ⟨k, by omega⟩ + ∑ k : Fin 768, f ⟨768 + k, by omega⟩ + ∑ k : Fin 768, f ⟨1536 + k, by omega⟩
      + ∑ k : Fin 512, f ⟨2304 + k, by omega⟩ := by
  have h3 := Fin.sum_univ_add (a := 2304) (b := 512) f
  have h2 := Fin.sum_univ_add (a := 1536) (b := 768) (fun k : Fin 2304 => f (Fin.castAdd 512 k))
  have h1 := Fin.sum_univ_add (a := 768) (b := 768) (fun k : Fin 1536 => f (Fin.castAdd 512 (Fin.castAdd 768 k)))
  exact h3.trans (congrArg (· + _) (h2.trans (congrArg (· + _) h1)))

/-- The stream after the feed-forward, from a tile's blocks. -/
def stream (c : Dev nD) (t : Fin cfg0.N) : FVec Ideal S32x1024 .f32 :=
  k0_pay4 (F := Ideal) (iblk m c 0 t) (k0_pay6 (iblk m c 0 t) (iblk m c 1 t) (iblk m c 2 t) (iblk m c 3 t) (iblk m c 4 t) (iblk m c 5 t) (iblk m c 6 t) (iblk m c 7 t) (iblk m c 8 t))
    (k0_pay7 (iblk m c 0 t) (iblk m c 1 t) (iblk m c 2 t) (iblk m c 3 t) (iblk m c 4 t) (iblk m c 5 t) (iblk m c 6 t) (iblk m c 7 t) (iblk m c 8 t))
    (View.ld (iblk m c 3 t) r0_6) (View.ld (iblk m c 4 t) r0_6) (View.ld (iblk m c 5 t) r0_7)
    (View.ld (iblk m c 3 t) r0_8) (View.ld (iblk m c 4 t) r0_8) (View.ld (iblk m c 5 t) r0_9)

open Cert.FfnSRefIdeal.Read in
/-- The stream after the feed-forward is the reference's, row by row. -/
theorem stream_at (c : Dev nD) (t : Fin cfg0.N) (i : Fin 32) (j : Fin 1024) (h : 32 * t.val + i < 32) :
    stream m c t (ix2 i j) = val_main_v18 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 ⟨32 * t.val + i, h⟩ j) := by
  unfold stream
  pointwise [k0_pay2, k0_pay3, k0_pay4, k0_pay6, k0_pay7, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_call0_cst, val_main_call0_cst_0, val_main_call0_v0, val_main_call0_v1, val_main_call0_v2, val_main_call0_v3, val_main_call0_v4, val_main_call0_v5]
  rw [sum_chunks]
  simp only [Ideal.logistic]
  blk_point [iblk, V, idx t]

open Cert.FfnSRefIdeal.Read in
/-- What a point stores is the reference's answer at the place it is stored to, and the blocks tile the array. -/
theorem final (c : Dev nD) : (dats m 0 c).arrAt 9 (cfgs 0).N
    = Cert.FfnSRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  frame_out
  have hS := stream_at m c t
  unfold stream at hS
  unfold k0_pay5
  generalize k0_pay4 (F := Ideal) _ _ _ _ _ _ _ _ _ = S at hS ⊢
  pointwise [k0_pay1, val_main_cst_2, val_main_cst_3, val_main_cst_4, val_main_cst_5, val_main_cst_6, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  simp only [Ideal.logistic]
  blk_point [iblk, V, idx t]
  · refine (congrArg S (show y = ix2 (y 0) (y 1) from by funext k; match k with | 0 => rfl | 1 => rfl)).trans ((hS (y 0) (y 1) (by omega)).trans ?_)
    blk_point [idx t]
  · refine (hS (y 0) x (by omega)).trans ?_
    blk_point [idx t]

end Cert.FfnSIdeal.Steps
-- ==== Proof.OprojFinal.lean ====
/-
  The output projection kernel's stream and normalised rows are the reference's.
-/
module

public import proofs.«01_k».proof.Defs
public import proofs.«01_k».proof.Proof.Gen.OprojIdeal.Frame
public import proofs.«01_k».proof.Proof.Gen.OprojRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OprojIdeal.Steps

open Cert.OprojIdeal Cert.OprojIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

open Cert.OprojRefIdeal.Read in
/-- What a point stores is the reference's sum, and the blocks tile the array. -/
theorem final6 (c : Dev nD) : (dats m 0 c).arrAt 6 (cfgs 0).N
    = Cert.OprojRefIdeal.Read.val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay2, k0_pay3, k0_pay4, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16]
  blk_point [iblk, V, idx t]

open Cert.OprojRefIdeal.Read in
/-- What a point stores is the reference's normalised row, and the blocks tile the array. -/
theorem final7 (c : Dev nD) : (dats m 0 c).arrAt 7 (cfgs 0).N
    = Cert.OprojRefIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, k0_pay3, k0_pay4, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15, val_main_v16]
  blk_point [iblk, V, idx t]

end Cert.OprojIdeal.Steps
-- ==== Proof.OprojSFinal.lean ====
/-
  The output projection kernel's stream and normalised rows are the reference's.
-/
module

public import proofs.«01_k».proof.Defs
public import proofs.«01_k».proof.Proof.Gen.OprojSIdeal.Frame
public import proofs.«01_k».proof.Proof.Gen.OprojSRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OprojSIdeal.Steps

open Cert.OprojSIdeal Cert.OprojSIdeal.Gen Idealize.ShloMosaic Idealize.ShloMosaic.TcCoe Idealize.SL.Sem

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

open Cert.OprojSRefIdeal.Read in
/-- What a point stores is the reference's sum, and the blocks tile the array. -/
theorem final6 (c : Dev nD) : (dats m 0 c).arrAt 6 (cfgs 0).N
    = Cert.OprojSRefIdeal.Read.val_main_v1 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay2, k0_pay3, k0_pay4, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15]
  blk_point [iblk, V, idx t]

open Cert.OprojSRefIdeal.Read in
/-- What a point stores is the reference's normalised row, and the blocks tile the array. -/
theorem final7 (c : Dev nD) : (dats m 0 c).arrAt 7 (cfgs 0).N
    = Cert.OprojSRefIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, k0_pay3, k0_pay4, val_main_cst, val_main_cst_0, val_main_cst_1, val_main_v0, val_main_v1, val_main_v2, val_main_v3, val_main_v4, val_main_v5, val_main_v6, val_main_v7, val_main_v8, val_main_v9, val_main_v10, val_main_v11, val_main_v12, val_main_v13, val_main_v14, val_main_v15]
  blk_point [iblk, V, idx t]

end Cert.OprojSIdeal.Steps
-- ==== Proof.MoeSpec.lean ====
/-
  The expert mixture as plain sums of extended reals, with no program in sight: what one token's output is, and the two
  rearrangements that lead from the tiled accumulation to it.
-/
module

public import Idealize.ShloMosaic.Lib.Pipeline.ValueKit
public import Idealize.ShloMosaic.Lib.Pointwise

@[expose] public section

set_option maxRecDepth 16384

noncomputable section

namespace Cert.MoeSpec

open Idealize.ShloMosaic

/-- The gated hidden activation of token `r`, expert `e`, hidden column `k`. -/
def hidden (h : Fin 16384 → Fin 1024 → EReal) (wg wu : Fin 8 → Fin 1024 → Fin 3584 → EReal)
    (r : Fin 16384) (e : Fin 8) (k : Fin 3584) : EReal :=
  ((∑ d, h r d * wg e d k) * Ideal.logistic (∑ d, h r d * wg e d k)) * ∑ d, h r d * wu e d k

/-- A weight that is neither negative nor infinite goes into a finite sum of any extended reals. -/
theorem weight_sum {ι : Type*} (s : Finset ι) (f : ι → EReal) (w : EReal) (h0 : 0 ≤ w) (h1 : w ≠ ⊤) :
    ∑ i ∈ s, w * f i = w * ∑ i ∈ s, f i := by
  classical
  induction s using Finset.induction_on with
  | empty => simp
  | insert a s ha ih => rw [Finset.sum_insert ha, Finset.sum_insert ha, ih, EReal.left_distrib_of_nonneg_of_ne_top h0 h1]

/-- Selecting one lane by its number and summing the lanes gives that lane. -/
theorem lane_sum (f : Fin 128 → EReal) (e : ℕ) (he : e < 128) :
    ∑ x : Fin 128, Scalar.select (IntOp.cmpi CmpIPredicate.eq (BitVec.ofNat 32 ↑x) (BitVec.ofNat 32 e)) (f x) 0
      = f ⟨e, he⟩ := by
  rw [Finset.sum_eq_single (⟨e, he⟩ : Fin 128)]
  · show (if BitVec.ofBool (BitVec.ofNat 32 e == BitVec.ofNat 32 e) = 1#1 then f ⟨e, he⟩ else 0) = _
    rw [beq_self_eq_true]
    rfl
  · intro x _ hx
    have hne : BitVec.ofNat 32 x.val ≠ BitVec.ofNat 32 e := by
      intro hh
      apply hx
      have := congrArg BitVec.toNat hh
      have hl := x.isLt
      simp only [BitVec.toNat_ofNat] at this
      apply Fin.ext
      show x.val = e
      omega
    show (if BitVec.ofBool (BitVec.ofNat 32 x.val == BitVec.ofNat 32 e) = 1#1 then f x else 0) = 0
    rw [beq_eq_false_iff_ne.mpr hne]
    rfl
  · intro hx; exact absurd (Finset.mem_univ _) hx

/-- The tiled accumulation is the mixture: 8 experts by 7 tiles of 512 hidden columns, each tile's product weighted, is
    each expert's whole product over its 3584 columns, weighted once. -/
theorem tiles (w : Fin 8 → EReal) (F : Fin 8 → Fin 3584 → EReal) (h0 : ∀ e, 0 ≤ w e) (h1 : ∀ e, w e ≠ ⊤) :
    ∑ e : Fin 8, ∑ f : Fin 7, w e * ∑ k : Fin 512, F e ⟨f.val * 512 + k.val, by omega⟩
      = ∑ e : Fin 8, w e * ∑ k : Fin 3584, F e k := by
  refine Finset.sum_congr rfl fun e _ => ?_
  rw [weight_sum _ _ _ (h0 e) (h1 e)]
  exact congrArg (w e * ·) (Fin.sum_mul_add_fin 7 512 (F e))

end Cert.MoeSpec

end
-- ==== Proof.MoeStep.lean ====
/-
  What one grid step of the expert kernel leaves behind: the running sum the body finds, plus one expert's routing
  weight times that expert's feed-forward on one tile of its hidden columns; and so what a row tile's last step writes.
-/
module

public import proofs.«01_k».proof.Proof.Gen.MoeIdeal.Value
public import proofs.«01_k».proof.Proof.MoeSpec
public import Idealize.ShloMosaic.Lib.Pipeline.ReadBack

@[expose] public section

set_option maxRecDepth 16384

noncomputable section

namespace Cert.MoeIdeal.Steps

open Cert.MoeIdeal Cert.MoeIdeal.Gen Idealize.ShloMosaic Idealize.ShloMosaic.TcCoe Idealize.SL.Sem

variable (m : (ℓ : Loc nD τ sig) → Buf (Elt Ideal) ℓ)

/-- One step's contribution at a row and an output column, from the step's expert number and the blocks it loads. -/
def part (e : ℕ) (v5 : FVec Ideal S1024x1024 .bf16) (v6 v11 : FVec Ideal S1x1024x512 .bf16) (v16 : FVec Ideal S1x512x1024 .bf16)
    (v22 : FVec Ideal S1024x128 .f32) (j : S1024x1024.Idx) : EReal :=
  (∑ x : Fin 128, Scalar.select (IntOp.cmpi CmpIPredicate.eq (BitVec.ofNat 32 ↑x) (BitVec.ofNat 32 e)) (v22 (ix2 (j 0) x)) 0)
    * ∑ k : Fin 512, ((∑ d : Fin 1024, v5 (ix2 (j 0) d) * v6 (ix3 0 d k))
        * Ideal.logistic (∑ d : Fin 1024, v5 (ix2 (j 0) d) * v6 (ix3 0 d k))
        * ∑ d : Fin 1024, v5 (ix2 (j 0) d) * v11 (ix3 0 d k)) * v16 (ix3 0 k (j 1))

theorem pay_apply (i : grid0.Coords) (v5 : FVec Ideal S1024x1024 .bf16) (v6 v11 : FVec Ideal S1x1024x512 .bf16) (v16 : FVec Ideal S1x512x1024 .bf16)
    (v22 : FVec Ideal S1024x128 .f32) (v29 : FVec Ideal S1024x1024 .f32) (j : S1024x1024.Idx) :
    k0_pay1 (k0_pay4 i v5 v6 v11 v16 v22 v29) j = v29 j + part (i 1).val v5 v6 v11 v16 v22 j := by
  idx_vars j
  pointwise [k0_pay1, k0_pay4, part]

theorem zero_apply (j : S1024x1024.Idx) : k0_pay3 (F := Ideal) j = 0 := by
  pointwise [k0_pay3]

/-- What the step at point `p` adds to the running sum. -/
def term (c : Dev nD) (p : Fin cfg0.N) (j : S1024x1024.Idx) : EReal :=
  part (grid0.coords p 1).val (iblk m c 0 p) (iblk m c 3 p) (iblk m c 4 p) (iblk m c 5 p) (iblk m c 2 p) j

theorem first (c : Dev nD) (t : Fin cfg0.N) (h0 : t.val % 56 = 0) (j : S1024x1024.Idx) :
    (outsAt0 m c t.val t.isLt).2 j = 0 + term m c t j := by
  rw [outsAt0_A m c t h0 (by omega)]
  frame_out
  rw [pay_apply, zero_apply]
  rfl

theorem next (c : Dev nD) (t : Fin cfg0.N) (h0 : ¬t.val % 56 = 0) (j : S1024x1024.Idx) :
    (outsAt0 m c t.val t.isLt).2 j
      = (outsAt0 m c (t.val - 1) (Nat.lt_of_le_of_lt (Nat.sub_le _ _) t.isLt)).2 j + term m c t j := by
  by_cases h1 : t.val % 56 = 55
  · rw [outsAt0_C m c t h0 h1]
    frame_out
    simp only [read_unread_whole]
    rw [pay_apply]
    rfl
  · rw [outsAt0_B m c t h0 h1]
    frame_out
    simp only [read_unread_whole]
    rw [pay_apply]
    rfl

/-- The last step of a row tile writes the residual row plus the running sum it leaves. -/
theorem written (c : Dev nD) (t : Fin cfg0.N) (h1 : t.val % 56 = 55) (j : S1024x1024.Idx) :
    (outsAt0 m c t.val t.isLt).1 j = (show FVec Ideal S1024x1024 .f32 from iblk m c 1 t) j + (outsAt0 m c t.val t.isLt).2 j := by
  have h0 : ¬t.val % 56 = 0 := by omega
  rw [outsAt0_C m c t h0 h1]
  frame_out
  rfl

/-- So what it writes is the residual plus the 56 contributions of its row tile. -/
theorem written_sum (c : Dev nD) (t : Fin cfg0.N) (h1 : t.val % 56 = 55) (j : S1024x1024.Idx) :
    (outsAt0 m c t.val t.isLt).1 j = (show FVec Ideal S1024x1024 .f32 from iblk m c 1 t) j
      + ∑ s : Fin 56, term m c ⟨56 * (t.val / 56) + s.val, Pipeline.run_point_lt_of_flush t h1 s⟩ j := by
  rw [written m c t h1 j, Pipeline.eq_sum_fin_of_reset_step_apply_of_flush (fun n h => (outsAt0 m c n h).2) 56 (fun _ => 0)
    (term m c) (first m c) (next m c) t h1 j, zero_add]

end Cert.MoeIdeal.Steps
end
-- ==== Proof.MoePlaces.lean ====
/-
  Where the expert kernel's grid points stand: each window's block at a point, and the point's expert number.
-/
module

public import proofs.«01_k».proof.Proof.Gen.MoeIdeal.Value

@[expose] public section

set_option maxRecDepth 16384

namespace Cert.MoeIdeal.Steps

open Cert.MoeIdeal Cert.MoeIdeal.Gen Idealize.ShloMosaic

/-- Which block each window holds at point `t`: 56 points per row tile, 7 hidden tiles per expert. -/
theorem idx : ∀ t : Fin cfg0.N, win0_0.index t = ![t.val / 56, 0] ∧ win0_1.index t = ![t.val / 56, 0]
    ∧ win0_2.index t = ![t.val / 56, 0] ∧ win0_3.index t = ![t.val / 7 % 8, 0, t.val % 7]
    ∧ win0_4.index t = ![t.val / 7 % 8, 0, t.val % 7] ∧ win0_5.index t = ![t.val / 7 % 8, t.val % 7, 0]
    ∧ win0_6.index t = ![t.val / 56, 0] :=
  (by decide +kernel : ∀ t : Fin grid0.N, _)

theorem coord : ∀ t : Fin cfg0.N, (grid0.coords t 1).val = t.val / 7 % 8 :=
  (by decide +kernel : ∀ t : Fin grid0.N, _)

end Cert.MoeIdeal.Steps
-- ==== Proof.MoeArray.lean ====
/-
  The expert kernel's result array: at every row and column, the residual plus the routed sum of the experts, each
  expert's feed-forward taken over all of its hidden columns.
-/
module

public import proofs.«01_k».proof.Proof.MoeStep
public import proofs.«01_k».proof.Proof.MoePlaces
public import Idealize.ShloMosaic.Lib.Claim

@[expose] public section

set_option maxRecDepth 16384

noncomputable section

namespace Cert.MoeIdeal.Steps

open Cert.MoeIdeal Cert.MoeIdeal.Gen Idealize.ShloMosaic Idealize.ShloMosaic.TcCoe Idealize.SL.Sem

variable (m : (ℓ : Loc nD τ sig) → Buf (Elt Ideal) ℓ)

/-- The mixture over the launch's own arrays. -/
def mix (h : FVec Ideal S16384x1024 .bf16) (x : FVec Ideal S16384x1024 .f32) (comb : FVec Ideal S16384x128 .f32)
    (wg wu : FVec Ideal S8x1024x3584 .f32) (wd : FVec Ideal S8x3584x1024 .f32) (r : Fin 16384) (l : Fin 1024) : EReal :=
  x (ix2 r l) + ∑ e : Fin 8, comb (ix2 r ⟨e.val, by omega⟩)
    * ∑ k : Fin 3584, MoeSpec.hidden (fun r d => h (ix2 r d)) (fun e d k => wg (ix3 e d k)) (fun e d k => wu (ix3 e d k)) r e k
        * wd (ix3 e k l)

/-- Argument 0 of the launch. -/
abbrev arr0 (c : Dev nD) : FVec Ideal S16384x1024 .bf16 := m ((c : Thread nD τ).loc main_arg0)
/-- Argument 1 of the launch. -/
abbrev arr1 (c : Dev nD) : FVec Ideal S16384x1024 .f32 := m ((c : Thread nD τ).loc main_arg1)
/-- Argument 2 of the launch. -/
abbrev arr2 (c : Dev nD) : FVec Ideal S16384x128 .f32 := m ((c : Thread nD τ).loc main_arg2)
/-- Argument 3 of the launch. -/
abbrev arr3 (c : Dev nD) : FVec Ideal S8x1024x3584 .f32 := m ((c : Thread nD τ).loc main_arg3)
/-- Argument 4 of the launch. -/
abbrev arr4 (c : Dev nD) : FVec Ideal S8x1024x3584 .f32 := m ((c : Thread nD τ).loc main_arg4)
/-- Argument 5 of the launch. -/
abbrev arr5 (c : Dev nD) : FVec Ideal S8x3584x1024 .f32 := m ((c : Thread nD τ).loc main_arg5)

/-- A row block of the hidden states. -/
theorem read0 (c : Dev nD) (p : Fin cfg0.N) (r d : Fin 1024) (R : Fin 16384) (hr : R.val = p.val / 56 * 1024 + r.val) :
    (iblk m c 0 p) (ix2 r d) = arr0 m c (ix2 R d) := by
  blk_point [iblk, V, idx p]

/-- A tile of the gate weights. -/
theorem read3 (c : Dev nD) (p : Fin cfg0.N) (d : Fin 1024) (k : Fin 512) :
    (iblk m c 3 p) (ix3 0 d k) = arr3 m c (ix3 ⟨p.val / 7 % 8, by omega⟩ d ⟨p.val % 7 * 512 + k.val, by omega⟩) := by
  blk_point [iblk, V, idx p]

/-- A tile of the up weights. -/
theorem read4 (c : Dev nD) (p : Fin cfg0.N) (d : Fin 1024) (k : Fin 512) :
    (iblk m c 4 p) (ix3 0 d k) = arr4 m c (ix3 ⟨p.val / 7 % 8, by omega⟩ d ⟨p.val % 7 * 512 + k.val, by omega⟩) := by
  blk_point [iblk, V, idx p]

/-- One step's contribution, over the launch's arrays. -/
theorem term_eq (c : Dev nD) (p : Fin cfg0.N) (r : Fin 1024) (l : Fin 1024) (R : Fin 16384) (hr : R.val = p.val / 56 * 1024 + r.val) :
    term m c p (ix2 r l) = arr2 m c (ix2 R ⟨p.val / 7 % 8, by omega⟩)
      * ∑ k : Fin 512, MoeSpec.hidden (fun r d => arr0 m c (ix2 r d)) (fun e d k => arr3 m c (ix3 e d k)) (fun e d k => arr4 m c (ix3 e d k))
          R ⟨p.val / 7 % 8, by omega⟩ ⟨p.val % 7 * 512 + k.val, by omega⟩
        * arr5 m c (ix3 ⟨p.val / 7 % 8, by omega⟩ ⟨p.val % 7 * 512 + k.val, by omega⟩ l) := by
  unfold term part
  rw [MoeSpec.lane_sum _ _ (by rw [coord p]; omega)]
  have hc := coord p
  unfold MoeSpec.hidden
  blk_point [iblk, V, idx p]
  · exact congrArg₂ (· * ·) (read0 m c p r d R hr) (read3 m c p d k)
  · exact congrArg₂ (· * ·) (read0 m c p r d R hr) (read3 m c p d k)
  · exact congrArg₂ (· * ·) (read0 m c p r d R hr) (read4 m c p d k)

/-- The residual's block at a grid point. -/
abbrev res (c : Dev nD) (p : Fin cfg0.N) : FVec Ideal S1024x1024 .f32 := iblk m c 1 p

/-- A row block's residual read in place. -/
theorem read1 (c : Dev nD) (p : Fin cfg0.N) (r l : Fin 1024) (R : Fin 16384) (hr : R.val = p.val / 56 * 1024 + r.val) :
    res m c p (ix2 r l) = arr1 m c (ix2 R l) := by
  blk_point [iblk, V, idx p]

/-- A block's residual and its 56 contributions are the mixture's row, when the first eight weights lie in [0, 1]. -/
theorem block_eq (c : Dev nD) (h0 : ∀ (r : Fin 16384) (e : Fin 8), 0 ≤ arr2 m c (ix2 r ⟨e.val, by omega⟩))
    (h1 : ∀ (r : Fin 16384) (e : Fin 8), arr2 m c (ix2 r ⟨e.val, by omega⟩) ≤ 1) (t : Fin cfg0.N)
    (hs : ∀ s : Fin 56, 56 * (t.val / 56) + s.val < cfg0.N) (r l : Fin 1024) (R : Fin 16384)
    (hr : R.val = t.val / 56 * 1024 + r.val) :
    res m c t (ix2 r l) + ∑ s : Fin 56, term m c ⟨56 * (t.val / 56) + s.val, hs s⟩ (ix2 r l)
      = mix (arr0 m c) (arr1 m c) (arr2 m c) (arr3 m c) (arr4 m c) (arr5 m c) R l := by
  unfold mix
  refine congrArg₂ (· + ·) (read1 m c t r l R hr) ?_
  rw [← MoeSpec.tiles (fun e => arr2 m c (ix2 R ⟨e.val, by omega⟩)) _ (h0 R)
    (fun e => ne_top_of_le_ne_top (by decide) (h1 R e))]
  refine Fin.sum_divmod_congr (S := 7) (A := 8) fun s ha hb => ?_
  have hlt := hs s
  refine (term_eq m c ⟨56 * (t.val / 56) + s.val, hs s⟩ r l R (by show R.val = (56 * (t.val / 56) + s.val) / 56 * 1024 + r.val; omega)).trans ?_
  have e1 : (56 * (t.val / 56) + s.val) / 7 % 8 = s.val / 7 := by omega
  have e2 : (56 * (t.val / 56) + s.val) % 7 = s.val % 7 := by omega
  simp only [e1, e2]

/-- The array the launch leaves: every entry is the mixture, when the first eight mixing weights lie in [0, 1]. -/
theorem final (c : Dev nD) (h0 : ∀ (r : Fin 16384) (e : Fin 8), 0 ≤ arr2 m c (ix2 r ⟨e.val, by omega⟩))
    (h1 : ∀ (r : Fin 16384) (e : Fin 8), arr2 m c (ix2 r ⟨e.val, by omega⟩) ≤ 1) :
    (dats m 0 c).arrAt 6 (cfgs 0).N
      = fun i => mix (arr0 m c) (arr1 m c) (arr2 m c) (arr3 m c) (arr4 m c) (arr5 m c) (i 0) (i 1) := by
  refine (dats m 0 c).arrAt_eq_of_covers 6 _ (by decide +kernel) fun t hf y => ?_
  blk_simp
  rw [after0_6, written_sum m c t ((flush0_6 t).mp hf)]
  have hN := t.isLt
  have hy0 : (y 0).val < 1024 := (y 0).isLt
  have hy1 : (y 1).val < 1024 := (y 1).isLt
  have hR : t.val / 56 * 1024 + (y 0).val < 16384 := by
    have : cfg0.N = 896 := N_0
    have : t.val < 896 := by rw [← this]; exact hN
    omega
  have hy : y = ix2 (⟨(y 0).val, hy0⟩ : Fin 1024) (⟨(y 1).val, hy1⟩ : Fin 1024) := by
    funext k; match k with
    | 0 => rfl
    | 1 => rfl
  have e0 : (win0_6.blk t).view.emb y 0 = (⟨t.val / 56 * 1024 + (y 0).val, hR⟩ : Fin 16384) := by
    apply Fin.ext
    blk_simp [idx t]
  have e1 : (win0_6.blk t).view.emb y 1 = (⟨(y 1).val, hy1⟩ : Fin 1024) := by
    apply Fin.ext
    blk_simp [idx t]
  rw [e0, e1]
  have hb := block_eq m c h0 h1 t (fun s => by have : cfg0.N = 896 := N_0; have : t.val < 896 := by { rw [← this]; exact hN }; omega) ⟨(y 0).val, hy0⟩ ⟨(y 1).val, hy1⟩ ⟨_, hR⟩ rfl
  rw [← hy] at hb
  exact hb

end Cert.MoeIdeal.Steps
end
-- ==== Proof.MoeRefPoint.lean ====
/-
  The expert reference's answer read at one index, and what the precondition says about the mixing weights.
-/
module

public import proofs.«01_k».proof.Defs
public import proofs.«01_k».proof.Proof.MoeArray
public import proofs.«01_k».proof.Proof.Gen.MoeRefIdeal.Run
public import proofs.«01_k».proof.Proof.Gen.Pre_weights_in_range
public import Idealize.ShloMosaic.Lib.Claim

@[expose] public section

set_option maxRecDepth 16384

noncomputable section

namespace Cert.MoeRefPoint

open Cert.MoeRefIdeal Cert.MoeRefIdeal.Gen Idealize.ShloMosaic

/-- The precondition at one row and expert: the mixing weight lies between zero and one. -/
theorem range [Cert.Pre_weights_in_range.Facts] (a0 : FVec Ideal S16384x1024 .bf16) (a1 : FVec Ideal S16384x1024 .f32)
    (a2 : FVec Ideal S16384x128 .f32) (a3 a4 : FVec Ideal S8x1024x3584 .f32) (a5 : FVec Ideal S8x3584x1024 .f32)
    (h : Cert.Pre_weights_in_range.fn (F := Ideal) a0 a1 a2 a3 a4 a5 = fun _ => 1#1) (r : Fin 16384) (e : Fin 8) :
    0 ≤ a2 (ix2 r (⟨e.val, by omega⟩ : Fin 128)) ∧ a2 (ix2 r (⟨e.val, by omega⟩ : Fin 128)) ≤ 1 := by
  have hp := congrFun h (ix2 r e)
  pointwise [Cert.Pre_weights_in_range.fn] at hp
  have key : ∀ p q : Bool, IntOp.andi (BitVec.ofBool p) (BitVec.ofBool q) = 1#1 → p = true ∧ q = true := by decide
  obtain ⟨ha, hb⟩ := key _ _ hp
  exact ⟨by simpa using ha, by simpa using hb⟩

/-- The reference's answer at one index is the mixture. -/
theorem point (a0 : FVec Ideal S16384x1024 .bf16) (a1 : FVec Ideal S16384x1024 .f32)
    (a2 : FVec Ideal S16384x128 .f32) (a3 a4 : FVec Ideal S8x1024x3584 .f32) (a5 : FVec Ideal S8x3584x1024 .f32)
    (r : Fin 16384) (l : Fin 1024) :
    (addf a1 (Host.reduceAdd (mulf (broadcastInDim S16384x8x1024 ![0, 1, 2] bcast_S16384x8x1_S16384x8x1024_0_1_2 (broadcastInDim S16384x8x1 ![0, 1] bcast_S16384x8_S16384x8x1_0_1 (extractStridedSlice S16384x8 ![0, 0] a2 slices_S16384x128_S16384x8_0_0))) (transpose S16384x8x1024 [2, 0, 1] (Host.dotGeneral dot_S8x3584x1024_S16384x8x3584_S8x1024x16384_1_2_2_0_0_1 none a5 (mulf (mulf (Host.dotGeneral dot_S16384x1024_S8x1024x3584_S16384x8x3584_1_1_0_02_n_n none (extf .f32 a0 bitsLt_bf16_f32) a3) (Host.divf (broadcastInDim S16384x8x3584 ![] bcast_S_S16384x8x3584 (constant S_ .f32 0x3F800000#32)) (addf (broadcastInDim S16384x8x3584 ![] bcast_S_S16384x8x3584 (constant S_ .f32 0x3F800000#32)) (Host.exp (Host.negf (Host.dotGeneral dot_S16384x1024_S8x1024x3584_S16384x8x3584_1_1_0_02_n_n none (extf .f32 a0 bitsLt_bf16_f32) a3)))))) (Host.dotGeneral dot_S16384x1024_S8x1024x3584_S16384x8x3584_1_1_0_02_n_n none (extf .f32 a0 bitsLt_bf16_f32) a4))) transposes_S8x1024x16384_S16384x8x1024_2_0_1)) (constant S_ .f32 0x00000000#32) reducesTo_S16384x8x1024_S16384x1024_d1 h_S_)) (ix2 r l)
      = Cert.MoeIdeal.Steps.mix a0 a1 a2 a3 a4 a5 r l := by
  pointwise [Cert.MoeIdeal.Steps.mix, MoeSpec.hidden]
  refine congrArg (_ + ·) (Finset.sum_congr rfl fun e _ => congrArg (_ * ·) (Finset.sum_congr rfl fun k _ => ?_))
  exact mul_comm _ _

end Cert.MoeRefPoint
-- ==== Proof.lean ====
/-
  The certificate: every claim, each from its program's generated run; the value claims put the kernel's result array
  and the reference's answer side by side as one formula at every index.
-/
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Gen.Pre_weights_in_range
public import proofs.«01_k».proof.Proof.Gen.Ple.Frame
public import proofs.«01_k».proof.Proof.Gen.PleIdeal.Frame
public import proofs.«01_k».proof.Proof.Gen.PleRefIdeal.Run
public import proofs.«01_k».proof.Proof.Gen.PleRefIdeal.Read
public import proofs.«01_k».proof.Proof.PleFinal
public import proofs.«01_k».proof.Proof.Gen.PleS.Frame
public import proofs.«01_k».proof.Proof.Gen.PleSIdeal.Frame
public import proofs.«01_k».proof.Proof.Gen.PleSRefIdeal.Run
public import proofs.«01_k».proof.Proof.Gen.PleSRefIdeal.Read
public import proofs.«01_k».proof.Proof.PleSFinal
public import proofs.«01_k».proof.Proof.Gen.Qkv.Frame
public import proofs.«01_k».proof.Proof.Gen.QkvIdeal.Frame
public import proofs.«01_k».proof.Proof.Gen.QkvRefIdeal.Run
public import proofs.«01_k».proof.Proof.Gen.QkvRefIdeal.Read
public import proofs.«01_k».proof.Proof.QkvFinal
public import proofs.«01_k».proof.Proof.Gen.QkvS.Frame
public import proofs.«01_k».proof.Proof.Gen.QkvSIdeal.Frame
public import proofs.«01_k».proof.Proof.Gen.QkvSRefIdeal.Run
public import proofs.«01_k».proof.Proof.Gen.QkvSRefIdeal.Read
public import proofs.«01_k».proof.Proof.QkvSFinal
public import proofs.«01_k».proof.Proof.Gen.MixS.Frame
public import proofs.«01_k».proof.Proof.Gen.MixSIdeal.Frame
public import proofs.«01_k».proof.Proof.Gen.MixSRefIdeal.Run
public import proofs.«01_k».proof.Proof.Gen.MixSRefIdeal.Read
public import proofs.«01_k».proof.Proof.MixSFinal
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.MixFinal
public import proofs.«01_k».proof.Proof.MobaFrame
public import proofs.«01_k».proof.Proof.MobaIdealFrame
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.FfnFinal
public import proofs.«01_k».proof.Proof.Gen.FfnS.Frame
public import proofs.«01_k».proof.Proof.Gen.FfnSIdeal.Frame
public import proofs.«01_k».proof.Proof.Gen.FfnSRefIdeal.Run
public import proofs.«01_k».proof.Proof.Gen.FfnSRefIdeal.Read
public import proofs.«01_k».proof.Proof.FfnSFinal
public import proofs.«01_k».proof.Proof.Gen.Oproj.Frame
public import proofs.«01_k».proof.Proof.Gen.OprojIdeal.Frame
public import proofs.«01_k».proof.Proof.Gen.OprojRefIdeal.Run
public import proofs.«01_k».proof.Proof.Gen.OprojRefIdeal.Read
public import proofs.«01_k».proof.Proof.OprojFinal
public import proofs.«01_k».proof.Proof.Gen.OprojS.Frame
public import proofs.«01_k».proof.Proof.Gen.OprojSIdeal.Frame
public import proofs.«01_k».proof.Proof.Gen.OprojSRefIdeal.Run
public import proofs.«01_k».proof.Proof.Gen.OprojSRefIdeal.Read
public import proofs.«01_k».proof.Proof.OprojSFinal
public import proofs.«01_k».proof.Proof.Gen.Select.Frame
public import proofs.«01_k».proof.Proof.Gen.SelectIdeal.Frame
public import Idealize.ShloMosaic.Adequacy
public import Idealize.ShloMosaic.Init
public import Idealize.ShloMosaic.Lib.Quiescent
public import Idealize.ShloMosaic.Lib.Claim
public import proofs.«01_k».proof.Proof.MoeRefPoint

@[expose] public section

noncomputable section

namespace Cert.Proof

open Idealize.ShloMosaic Idealize.SL.Sem

/-- The expert reference runs and leaves its arguments. -/
theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

section

variable [Cert.Pre_weights_in_range.Facts]

/-- The same under the precondition. -/
theorem quiescent_MoeRefIdeal_pre_weights_in_range : quiescent_MoeRefIdeal_pre_weights_in_range := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The expert kernel's result is the reference's. -/
theorem algebraic_MoeIdeal_MoeRefIdeal_pre_weights_in_range : algebraic_MoeIdeal_MoeRefIdeal_pre_weights_in_range := by
  pair_intro
  · run_from Cert.MoeIdeal.Gen.run_main m g
  · run_from Cert.MoeRefIdeal.Value.run (F := Ideal) m' g'
    have hr := fun r e => Cert.MoeRefPoint.range _ _ _ _ _ _ (hpre c) r e
    refine Eq.trans (funext fun i => ?_) (Cert.MoeIdeal.Steps.final m c (fun r e => (hr r e).1) (fun r e => (hr r e).2)).symm
    rw [show i = ix2 (i 0) (i 1) from by funext k; match k with | 0 => rfl | 1 => rfl]
    exact Cert.MoeRefPoint.point _ _ _ _ _ _ _ _

end

/-- The embedding reference runs and leaves its arguments. -/
theorem quiescent_PleRefIdeal : quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

/-- The embedding kernel's result is the reference's. -/
theorem algebraic_PleIdeal_PleRefIdeal : algebraic_PleIdeal_PleRefIdeal := by
  pair_intro
  · run_from Cert.PleIdeal.Gen.run_main m g
  · run_from Cert.PleRefIdeal.Value.run (F := Ideal) m' g'
    obtain ⟨h0, h1, h2, h3, h4, h5⟩ := hagree c
    rw [Cert.PleRefIdeal.Read.val_main_v35_eq, h0, h1, h2, h3, h4, h5]
    exact (Cert.PleIdeal.Steps.final m c).symm

/-- The sample embedding reference runs and leaves its arguments. -/
theorem quiescent_PleSRefIdeal : quiescent_PleSRefIdeal := fun m ρ _ =>
  (θ_run Cert.PleSRefIdeal.defs _ _).mono (fun r h => ⟨fun c => (h c).2, sem_eq_zero_of_no_sems (by decide) r.2⟩)
    (Cert.PleSRefIdeal.Value.run (F := Ideal) m ρ)

/-- The sample embedding kernel's result is the reference's. -/
theorem algebraic_PleSIdeal_PleSRefIdeal : algebraic_PleSIdeal_PleSRefIdeal := by
  pair_intro
  · run_from Cert.PleSIdeal.Gen.run_main m g
  · run_from Cert.PleSRefIdeal.Value.run (F := Ideal) m' g'
    obtain ⟨h0, h1, h2, h3, h4, h5⟩ := hagree c
    rw [Cert.PleSRefIdeal.Read.val_main_v35_eq, h0, h1, h2, h3, h4, h5]
    exact (Cert.PleSIdeal.Steps.final m c).symm

/-- The rotary projection reference runs and leaves its arguments. -/
theorem quiescent_QkvRefIdeal : quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The rotary projection kernel's results are the reference's. -/
theorem algebraic_QkvIdeal_QkvRefIdeal : algebraic_QkvIdeal_QkvRefIdeal := by
  pair_intro
  · run_from Cert.QkvIdeal.Gen.run_main m g
  · run_from Cert.QkvRefIdeal.Value.run (F := Ideal) m' g'
    all_goals obtain ⟨h0, h1, h2⟩ := hagree c
    · rw [Cert.QkvRefIdeal.Read.val_main_v49_eq, h0, h1, h2]
      exact (Cert.QkvIdeal.Steps.final4 m c).symm
    · rw [Cert.QkvRefIdeal.Read.val_main_v65_eq, h0, h1, h2]
      exact (Cert.QkvIdeal.Steps.final5 m c).symm
    · exact (Cert.QkvIdeal.Steps.final6 m c).symm

/-- The sample rotary projection reference runs and leaves its arguments. -/
theorem quiescent_QkvSRefIdeal : quiescent_QkvSRefIdeal := fun m ρ _ =>
  (θ_run Cert.QkvSRefIdeal.defs _ _).mono (fun r h => ⟨fun c => (h c).2.2.2, sem_eq_zero_of_no_sems (by decide) r.2⟩)
    (Cert.QkvSRefIdeal.Value.run (F := Ideal) m ρ)

/-- The sample rotary projection kernel's results are the reference's. -/
theorem algebraic_QkvSIdeal_QkvSRefIdeal : algebraic_QkvSIdeal_QkvSRefIdeal := by
  pair_intro
  · run_from Cert.QkvSIdeal.Gen.run_main m g
  · run_from Cert.QkvSRefIdeal.Value.run (F := Ideal) m' g'
    all_goals obtain ⟨h0, h1, h2⟩ := hagree c
    · rw [Cert.QkvSRefIdeal.Read.val_main_v47_eq, h0, h1, h2]
      exact (Cert.QkvSIdeal.Steps.final4 m c).symm
    · rw [Cert.QkvSRefIdeal.Read.val_main_v63_eq, h0, h1, h2]
      exact (Cert.QkvSIdeal.Steps.final5 m c).symm
    · exact (Cert.QkvSIdeal.Steps.final6 m c).symm

set_option maxRecDepth 16384 in
set_option maxHeartbeats 4000000 in
/-- The sample mixer reference runs and leaves its arguments. -/
theorem quiescent_MixSRefIdeal : quiescent_MixSRefIdeal := fun m ρ _ =>
  (θ_run Cert.MixSRefIdeal.defs _ _).mono (fun r h => ⟨fun c => (h c).2.2.2, sem_eq_zero_of_no_sems (by decide) r.2⟩)
    (Cert.MixSRefIdeal.Value.run (F := Ideal) m ρ)

set_option maxRecDepth 16384 in
set_option maxHeartbeats 4000000 in
/-- The sample mixer kernel's results are the reference's. -/
theorem algebraic_MixSIdeal_MixSRefIdeal : algebraic_MixSIdeal_MixSRefIdeal := by
  pair_intro
  · run_from Cert.MixSIdeal.Gen.run_main m g
  · run_from Cert.MixSRefIdeal.Value.run (F := Ideal) m' g'
    all_goals obtain ⟨h0, h1, h2, h3, h4, h5, h6, h7, h8⟩ := hagree c
    · rw [Cert.MixSRefIdeal.Read.val_main_v55_eq, h0, h1, h2, h3, h4, h5, h6, h7, h8]
      exact (Cert.MixSIdeal.Steps.final9 m c).symm
    · have e : Cert.MixSRefIdeal.Read.val_main_v57 (F := Ideal) (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m' ((c.tc : Thread Cert.MixSRefIdeal.nD Cert.MixSRefIdeal.τ).loc Cert.MixSRefIdeal.main_arg3)) (m' ((c.tc : Thread Cert.MixSRefIdeal.nD Cert.MixSRefIdeal.τ).loc Cert.MixSRefIdeal.main_arg4)) = (Cert.MixSIdeal.Gen.dats m 0 c).arrAt 10 (Cert.MixSIdeal.cfgs 0).N := by
        rw [h3, h4]
        exact (Cert.MixSIdeal.Steps.final10 m c).symm
      exact e
    · have e : Cert.MixSRefIdeal.Read.val_main_v59 (F := Ideal) (m ((c.tc : Thread Cert.MixSIdeal.nD Cert.MixSIdeal.τ).loc Cert.MixSIdeal.main_arg0)) (m' ((c.tc : Thread Cert.MixSRefIdeal.nD Cert.MixSRefIdeal.τ).loc Cert.MixSRefIdeal.main_arg2)) (m' ((c.tc : Thread Cert.MixSRefIdeal.nD Cert.MixSRefIdeal.τ).loc Cert.MixSRefIdeal.main_arg3)) (m' ((c.tc : Thread Cert.MixSRefIdeal.nD Cert.MixSRefIdeal.τ).loc Cert.MixSRefIdeal.main_arg4)) = (Cert.MixSIdeal.Gen.dats m 0 c).arrAt 11 (Cert.MixSIdeal.cfgs 0).N := by
        rw [h2, h3, h4]
        exact (Cert.MixSIdeal.Steps.final11 m c).symm
      exact e

set_option maxRecDepth 16384 in
/-- The prompt mixer reference runs and leaves its arguments. -/
theorem quiescent_MixRefIdeal : quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

set_option maxRecDepth 16384 in
set_option maxHeartbeats 4000000 in
/-- The states the prompt mixer kernel leaves are the reference's. -/
theorem algebraic_MixIdeal_MixRefIdeal : algebraic_MixIdeal_MixRefIdeal := by
  pair_intro
  · run_from Cert.MixIdeal.Gen.run_main m g
    · exact Cert.MixIdeal.Gen.W_main_arg1 m (Cert.MixIdeal.Gen.dats m) c
    · exact Cert.MixIdeal.Gen.W_main_arg2 m (Cert.MixIdeal.Gen.dats m) c
    · exact Cert.MixIdeal.Gen.W_main_arg4 m (Cert.MixIdeal.Gen.dats m) c
    · exact Cert.MixIdeal.Gen.W_main_arg5 m (Cert.MixIdeal.Gen.dats m) c
    · exact Cert.MixIdeal.Gen.W_main_arg6 m (Cert.MixIdeal.Gen.dats m) c
  · run_from Cert.MixRefIdeal.Value.run (F := Ideal) m' g'
    · exact (Cert.MixIdeal.Steps.finalC m c).symm
    · exact (Cert.MixIdeal.Steps.finalP m c).symm

set_option maxRecDepth 16384 in
/-- The feed-forward reference runs and leaves its arguments. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward kernel's result is the reference's. -/
theorem algebraic_FfnIdeal_FfnRefIdeal : algebraic_FfnIdeal_FfnRefIdeal := by
  pair_intro
  · run_from Cert.FfnIdeal.Gen.run_main m g
  · run_from Cert.FfnRefIdeal.Value.run (F := Ideal) m' g'
    obtain ⟨h0, h1, h2, h3, h4, h5, h6, h7, h8⟩ := hagree c
    rw [Cert.FfnRefIdeal.Read.val_main_v41_eq, h0, h1, h2, h3, h4, h5, h6, h7, h8]
    exact (Cert.FfnIdeal.Steps.final m c).symm

set_option maxRecDepth 16384 in
/-- The sample feed-forward reference runs and leaves its arguments. -/
theorem quiescent_FfnSRefIdeal : quiescent_FfnSRefIdeal := fun m ρ _ =>
  (θ_run Cert.FfnSRefIdeal.defs _ _).mono (fun r h => ⟨fun c => (h c).2, sem_eq_zero_of_no_sems (by decide) r.2⟩)
    (Cert.FfnSRefIdeal.Value.run (F := Ideal) m ρ)

/-- The sample feed-forward kernel's result is the reference's. -/
theorem algebraic_FfnSIdeal_FfnSRefIdeal : algebraic_FfnSIdeal_FfnSRefIdeal := by
  pair_intro
  · run_from Cert.FfnSIdeal.Gen.run_main m g
  · run_from Cert.FfnSRefIdeal.Value.run (F := Ideal) m' g'
    obtain ⟨h0, h1, h2, h3, h4, h5, h6, h7, h8⟩ := hagree c
    rw [Cert.FfnSRefIdeal.Read.val_main_v41_eq, h0, h1, h2, h3, h4, h5, h6, h7, h8]
    exact (Cert.FfnSIdeal.Steps.final m c).symm

set_option maxRecDepth 16384 in
/-- The output projection reference runs and leaves its arguments. -/
theorem quiescent_OprojRefIdeal : quiescent_OprojRefIdeal := fun m ρ _ =>
  (θ_run Cert.OprojRefIdeal.defs _ _).mono (fun r h => ⟨fun c => (h c).2.2, sem_eq_zero_of_no_sems (by decide) r.2⟩)
    (Cert.OprojRefIdeal.Value.run (F := Ideal) m ρ)

/-- The output projection kernel's stream and normalised rows are the reference's. -/
theorem algebraic_OprojIdeal_OprojRefIdeal : algebraic_OprojIdeal_OprojRefIdeal := by
  pair_intro
  · run_from Cert.OprojIdeal.Gen.run_main m g
  · run_from Cert.OprojRefIdeal.Value.run (F := Ideal) m' g'
    · rw [Cert.OprojRefIdeal.Read.val_main_v2_eq]
      exact (Cert.OprojIdeal.Steps.final6 m c).symm
    · rw [Cert.OprojRefIdeal.Read.val_main_v16_eq]
      exact (Cert.OprojIdeal.Steps.final7 m c).symm

set_option maxRecDepth 16384 in
/-- The sample output projection reference runs and leaves its arguments. -/
theorem quiescent_OprojSRefIdeal : quiescent_OprojSRefIdeal := fun m ρ _ =>
  (θ_run Cert.OprojSRefIdeal.defs _ _).mono (fun r h => ⟨fun c => (h c).2.2, sem_eq_zero_of_no_sems (by decide) r.2⟩)
    (Cert.OprojSRefIdeal.Value.run (F := Ideal) m ρ)

/-- The sample output projection kernel's stream and normalised rows are the reference's. -/
theorem algebraic_OprojSIdeal_OprojSRefIdeal : algebraic_OprojSIdeal_OprojSRefIdeal := by
  pair_intro
  · run_from Cert.OprojSIdeal.Gen.run_main m g
  · run_from Cert.OprojSRefIdeal.Value.run (F := Ideal) m' g'
    · rw [Cert.OprojSRefIdeal.Read.val_main_v1_eq]
      exact (Cert.OprojSIdeal.Steps.final6 m c).symm
    · rw [Cert.OprojSRefIdeal.Read.val_main_v15_eq]
      exact (Cert.OprojSIdeal.Steps.final7 m c).symm

theorem claim : Cert.Claim := ⟨Cert.Moe.Gen.facts,
  Cert.MoeIdeal.Gen.facts,
  Cert.MoeRefIdeal.Gen.facts,
  Cert.Ple.Gen.facts,
  Cert.PleIdeal.Gen.facts,
  Cert.PleRefIdeal.Gen.facts,
  Cert.PleS.Gen.facts,
  Cert.PleSIdeal.Gen.facts,
  Cert.PleSRefIdeal.Gen.facts,
  Cert.Qkv.Gen.facts,
  Cert.QkvIdeal.Gen.facts,
  Cert.QkvRefIdeal.Gen.facts,
  Cert.QkvS.Gen.facts,
  Cert.QkvSIdeal.Gen.facts,
  Cert.QkvSRefIdeal.Gen.facts,
  Cert.MixS.Gen.facts,
  Cert.MixSIdeal.Gen.facts,
  Cert.MixSRefIdeal.Gen.facts,
  Cert.Mix.Gen.facts,
  Cert.MixIdeal.Gen.facts,
  Cert.MixRefIdeal.Gen.facts,
  Cert.Moba.Gen.facts,
  Cert.MobaIdeal.Gen.facts,
  Cert.Ffn.Gen.facts,
  Cert.FfnIdeal.Gen.facts,
  Cert.FfnRefIdeal.Gen.facts,
  Cert.FfnS.Gen.facts,
  Cert.FfnSIdeal.Gen.facts,
  Cert.FfnSRefIdeal.Gen.facts,
  Cert.Oproj.Gen.facts,
  Cert.OprojIdeal.Gen.facts,
  Cert.OprojRefIdeal.Gen.facts,
  Cert.OprojS.Gen.facts,
  Cert.OprojSIdeal.Gen.facts,
  Cert.OprojSRefIdeal.Gen.facts,
  Cert.Select.Gen.facts,
  Cert.SelectIdeal.Gen.facts,
  Cert.Pre_weights_in_range.Gen.facts,
  fun m ρ _ => Cert.Moe.Gen.frame m ρ,
  fun m ρ _ => Cert.MoeIdeal.Gen.frame m ρ,
  fun m ρ _ => Cert.MoeIdeal.Gen.frame m ρ,
  quiescent_MoeRefIdeal,
  letI := Cert.Pre_weights_in_range.Gen.facts; quiescent_MoeRefIdeal_pre_weights_in_range,
  fun m ρ _ => Cert.Ple.Gen.frame m ρ,
  fun m ρ _ => Cert.PleIdeal.Gen.frame m ρ,
  quiescent_PleRefIdeal,
  fun m ρ _ => Cert.PleS.Gen.frame m ρ,
  fun m ρ _ => Cert.PleSIdeal.Gen.frame m ρ,
  quiescent_PleSRefIdeal,
  fun m ρ _ => Cert.Qkv.Gen.frame m ρ,
  fun m ρ _ => Cert.QkvIdeal.Gen.frame m ρ,
  quiescent_QkvRefIdeal,
  fun m ρ _ => Cert.QkvS.Gen.frame m ρ,
  fun m ρ _ => Cert.QkvSIdeal.Gen.frame m ρ,
  quiescent_QkvSRefIdeal,
  fun m ρ _ => Cert.MixS.Gen.frame m ρ,
  fun m ρ _ => Cert.MixSIdeal.Gen.frame m ρ,
  quiescent_MixSRefIdeal,
  fun m ρ _ => Cert.Mix.Gen.frame m ρ,
  fun m ρ _ => Cert.MixIdeal.Gen.frame m ρ,
  quiescent_MixRefIdeal,
  fun m ρ _ => Cert.Moba.Hand.frame m ρ,
  fun m ρ _ => Cert.MobaIdeal.Hand.frame m ρ,
  fun m ρ _ => Cert.Ffn.Gen.frame m ρ,
  fun m ρ _ => Cert.FfnIdeal.Gen.frame m ρ,
  quiescent_FfnRefIdeal,
  fun m ρ _ => Cert.FfnS.Gen.frame m ρ,
  fun m ρ _ => Cert.FfnSIdeal.Gen.frame m ρ,
  quiescent_FfnSRefIdeal,
  fun m ρ _ => Cert.Oproj.Gen.frame m ρ,
  fun m ρ _ => Cert.OprojIdeal.Gen.frame m ρ,
  quiescent_OprojRefIdeal,
  fun m ρ _ => Cert.OprojS.Gen.frame m ρ,
  fun m ρ _ => Cert.OprojSIdeal.Gen.frame m ρ,
  quiescent_OprojSRefIdeal,
  fun m ρ _ => Cert.Select.Gen.frame m ρ,
  fun m ρ _ => Cert.SelectIdeal.Gen.frame m ρ,
  (trivial : preserves_Moe_MoeIdeal),
  letI := Cert.Pre_weights_in_range.Gen.facts; algebraic_MoeIdeal_MoeRefIdeal_pre_weights_in_range,
  (trivial : preserves_Ple_PleIdeal),
  algebraic_PleIdeal_PleRefIdeal,
  (trivial : preserves_PleS_PleSIdeal),
  algebraic_PleSIdeal_PleSRefIdeal,
  (trivial : preserves_Qkv_QkvIdeal),
  algebraic_QkvIdeal_QkvRefIdeal,
  (trivial : preserves_QkvS_QkvSIdeal),
  algebraic_QkvSIdeal_QkvSRefIdeal,
  (trivial : preserves_MixS_MixSIdeal),
  algebraic_MixSIdeal_MixSRefIdeal,
  (trivial : preserves_Mix_MixIdeal),
  algebraic_MixIdeal_MixRefIdeal,
  (trivial : preserves_Moba_MobaIdeal),
  (trivial : preserves_Ffn_FfnIdeal),
  algebraic_FfnIdeal_FfnRefIdeal,
  (trivial : preserves_FfnS_FfnSIdeal),
  algebraic_FfnSIdeal_FfnSRefIdeal,
  (trivial : preserves_Oproj_OprojIdeal),
  algebraic_OprojIdeal_OprojRefIdeal,
  (trivial : preserves_OprojS_OprojSIdeal),
  algebraic_OprojSIdeal_OprojSRefIdeal,
  (trivial : preserves_Select_SelectIdeal)⟩

end Cert.Proof

end
